-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8x1024x64x128 : S_.BroadcastsInDim S8x1024x64x128 (![] : Fin 0 → Fin S8x1024x64x128.rank)
  reducesTo_S8x1024x64x128_S_d0_1_2_3 : S8x1024x64x128.ReducesTo [0, 1, 2, 3] S_

variable [Facts]

def fn {F : FTy → Type} [FloatOps F] (main_arg0 : FVec F S1x1024x1024 .f32) (main_arg1 : FVec F S1024x1024 .f32) (main_arg2 : FVec F S8x1024x64x128 .f32) (main_arg3 : FVec F S8x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8x1024x64x128 .f32 := Host.absf main_arg2
  let main_cst_2 : FVec F S_ .f32 := constant S_ .f32 0x7F800000#32
  let main_v10 : FVec F S8x1024x64x128 .f32 := broadcastInDim S8x1024x64x128 ![] bcast_S_S8x1024x64x128 main_cst_2
  let main_v11 : IVec S8x1024x64x128 1 := cmpf .olt main_v9 main_v10
  let main_c_3 : IVec S_ 1 := constantI S_ 1 1#1
  let main_v12 : IVec S_ 1 := (fun x v => Host.reduce IntOp.andi x v reducesTo_S8x1024x64x128_S_d0_1_2_3 h_S_) main_v11 main_c_3
  let main_v13 : IVec S_ 1 := andi main_v8 main_v12
  main_v13
-- ==== Pre_scores_finite_ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S8x1024x64x128 : S_.BroadcastsInDim S8x1024x64x128 (![] : Fin 0 → Fin S8x1024x64x128.rank)
  reducesTo_S8x1024x64x128_S_d0_1_2_3 : S8x1024x64x128.ReducesTo [0, 1, 2, 3] S_

variable [Facts]

def fn {F : FTy → Type} [FloatOps F] (main_arg0 : FVec F S8x1024x1024 .f32) (main_arg1 : FVec F S1024x8192 .f32) (main_arg2 : FVec F S8x1024x64x128 .f32) (main_arg3 : FVec F S8x1024x64x128 .f32) (main_arg4 : FVec F S8192x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S8x1024x64x128 .f32 := Host.absf main_arg2
  let main_cst_2 : FVec F S_ .f32 := constant S_ .f32 0x7F800000#32
  let main_v10 : FVec F S8x1024x64x128 .f32 := broadcastInDim S8x1024x64x128 ![] bcast_S_S8x1024x64x128 main_cst_2
  let main_v11 : IVec S8x1024x64x128 1 := cmpf .olt main_v9 main_v10
  let main_c_3 : IVec S_ 1 := constantI S_ 1 1#1
  let main_v12 : IVec S_ 1 := (fun x v => Host.reduce IntOp.andi x v reducesTo_S8x1024x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S2x2x1024x1024 : Shape := ⟨4, ![2, 2, 1024, 1024]⟩
abbrev S1024x8x128 : Shape := ⟨3, ![1024, 8, 128]⟩
abbrev S8 : Shape := ⟨1, ![8]⟩
abbrev S2 : Shape := ⟨1, ![2]⟩
abbrev S_ : Shape := ⟨0, ![]⟩
abbrev S1x1x1024x1024 : Shape := ⟨4, ![1, 1, 1024, 1024]⟩
abbrev S1 : Shape := ⟨1, ![1]⟩
abbrev S1x1024x8x128 : Shape := ⟨4, ![1, 1024, 8, 128]⟩
abbrev S1x2x1024x1024 : Shape := ⟨4, ![1, 2, 1024, 1024]⟩
abbrev S2x1024x1024 : Shape := ⟨3, ![2, 1024, 1024]⟩
abbrev S1024x128 : Shape := ⟨2, ![1024, 128]⟩
abbrev S1024x1x128 : Shape := ⟨3, ![1024, 1, 128]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S8x1024x64x128, .f32⟩
  | .hbm, ⟨3, _⟩ => ⟨S8x1024x64x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S2x2x1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x8x128, .f32⟩
  | .local _ .vmem, ⟨8, _⟩ => ⟨S1024x8x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => true
  | ⟨1, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 2 22 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_24 : BitVec 32 := 1#32
  let v39 : BitVec 32 := Scalar.muli v5 c1_i32_24
  let v40 : BitVec 32 := Scalar.addi c0_i32 v39
  v40.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_26 : BitVec 32 := 1#32
  let v41 : BitVec 32 := Scalar.muli v7 c1_i32_26
  let v42 : BitVec 32 := Scalar.addi c0_i32_27 v41
  v42.toNat
def k0_off1 (d0 : Dev nD) (c0_i32_32 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_38 : BitVec 32 := 0#32
  let v47 : BitVec 32 := Scalar.subi v2 c0_i32_32
  let c8_i32_33 : BitVec 32 := 8#32
  let v48 : BitVec 32 := Scalar.addi v47 c8_i32_33
  let c8_i32_34 : BitVec 32 := 8#32
  let v49 : BitVec 32 := Scalar.remsi v48 c8_i32_34
  let c8_i32_35 : BitVec 32 := 8#32
  let v50 : BitVec 32 := Scalar.muli v49 c8_i32_35
  let c0_i32_39 : BitVec 32 := 0#32
  ![v2.toNat, 0, v50.toNat, 0]
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_47 : BitVec 32 := 1#32
  let v60 : BitVec 32 := Scalar.muli v7 c1_i32_47
  let v61 : BitVec 32 := Scalar.addi c0_i32_48 v60
  v61.toNat
@[reducible] def k0_t1_loop : Scf.Loop 32 :=
  let c0_i32_81 : BitVec 32 := 0#32
  let c8_i32_82 : BitVec 32 := 8#32
  let v97 : BitVec 32 := Scalar.addi c0_i32_81 c8_i32_82
  let c1_i32_83 : BitVec 32 := 1#32
  ⟨c0_i32_81, v97, c1_i32_83⟩
def k0_off2 (k0_t1 : Fin k0_t1_loop.trips) : Fin 2 → Nat :=
  let c0_719 : Index := 0#32
  let c0_i32_81 : BitVec 32 := 0#32
  let c1_i32_83 : BitVec 32 := 1#32
  let arg18 : BitVec 32 := Scf.iv c0_i32_81 c1_i32_83 k0_t1
  let c128_i32_718 : BitVec 32 := 128#32
  let v627 : BitVec 32 := Scalar.muli arg18 c128_i32_718
  let v628 : Index := Scalar.indexCast v627
  ![0, v628.toNat]
def k0_off3 (k0_t1 : Fin k0_t1_loop.trips) : Fin 3 → Nat :=
  let c0_720 : Index := 0#32
  let c0_i32_81 : BitVec 32 := 0#32
  let c1_i32_83 : BitVec 32 := 1#32
  let arg18 : BitVec 32 := Scf.iv c0_i32_81 c1_i32_83 k0_t1
  let v630 : Index := Scalar.indexCast arg18
  let c0_721 : Index := 0#32
  ![0, v630.toNat, 0]
def k0_dev4 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_108 : BitVec 32 := 1#32
  let v113 : BitVec 32 := Scalar.muli v5 c1_i32_108
  let v114 : BitVec 32 := Scalar.addi c0_i32_109 v113
  v114.toNat
def k0_dev5 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_139 : BitVec 32 := 1#32
  let v136 : BitVec 32 := Scalar.muli v7 c1_i32_139
  let v137 : BitVec 32 := Scalar.addi c0_i32_140 v136
  v137.toNat
@[reducible] def k0_t2_loop : Scf.Loop 32 :=
  let c0_i32_173 : BitVec 32 := 0#32
  let c8_i32_174 : BitVec 32 := 8#32
  let v173 : BitVec 32 := Scalar.addi c0_i32_173 c8_i32_174
  let c1_i32_175 : BitVec 32 := 1#32
  ⟨c0_i32_173, v173, c1_i32_175⟩
def k0_off4 (k0_t2 : Fin k0_t2_loop.trips) : Fin 2 → Nat :=
  let c0_719 : Index := 0#32
  let c0_i32_173 : BitVec 32 := 0#32
  let c1_i32_175 : BitVec 32 := 1#32
  let arg18 : BitVec 32 := Scf.iv c0_i32_173 c1_i32_175 k0_t2
  let c128_i32_718 : BitVec 32 := 128#32
  let v627 : BitVec 32 := Scalar.muli arg18 c128_i32_718
  let v628 : Index := Scalar.indexCast v627
  ![0, v628.toNat]
def k0_off5 (k0_t2 : Fin k0_t2_loop.trips) : Fin 3 → Nat :=
  let c0_720 : Index := 0#32
  let c0_i32_173 : BitVec 32 := 0#32
  let c1_i32_175 : BitVec 32 := 1#32
  let arg18 : BitVec 32 := Scf.iv c0_i32_173 c1_i32_175 k0_t2
  let v630 : Index := Scalar.indexCast arg18
  let c0_721 : Index := 0#32
  ![0, v630.toNat, 0]
def k0_dev6 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_200 : BitVec 32 := 1#32
  let v189 : BitVec 32 := Scalar.muli v5 c1_i32_200
  let v190 : BitVec 32 := Scalar.addi c0_i32_201 v189
  v190.toNat
def k0_dev7 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_231 : BitVec 32 := 1#32
  let v212 : BitVec 32 := Scalar.muli v7 c1_i32_231
  let v213 : BitVec 32 := Scalar.addi c0_i32_232 v212
  v213.toNat
@[reducible] def k0_t3_loop : Scf.Loop 32 :=
  let c0_i32_265 : BitVec 32 := 0#32
  let c8_i32_266 : BitVec 32 := 8#32
  let v249 : BitVec 32 := Scalar.addi c0_i32_265 c8_i32_266
  let c1_i32_267 : BitVec 32 := 1#32
  ⟨c0_i32_265, v249, c1_i32_267⟩
def k0_off6 (k0_t3 : Fin k0_t3_loop.trips) : Fin 2 → Nat :=
  let c0_719 : Index := 0#32
  let c0_i32_265 : BitVec 32 := 0#32
  let c1_i32_267 : BitVec 32 := 1#32
  let arg18 : BitVec 32 := Scf.iv c0_i32_265 c1_i32_267 k0_t3
  let c128_i32_718 : BitVec 32 := 128#32
  let v627 : BitVec 32 := Scalar.muli arg18 c128_i32_718
  let v628 : Index := Scalar.indexCast v627
  ![0, v628.toNat]
def k0_off7 (k0_t3 : Fin k0_t3_loop.trips) : Fin 3 → Nat :=
  let c0_720 : Index := 0#32
  let c0_i32_265 : BitVec 32 := 0#32
  let c1_i32_267 : BitVec 32 := 1#32
  let arg18 : BitVec 32 := Scf.iv c0_i32_265 c1_i32_267 k0_t3
  let v630 : Index := Scalar.indexCast arg18
  let c0_721 : Index := 0#32
  ![0, v630.toNat, 0]
def k0_dev8 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_292 : BitVec 32 := 1#32
  let v265 : BitVec 32 := Scalar.muli v5 c1_i32_292
  let v266 : BitVec 32 := Scalar.addi c0_i32_293 v265
  v266.toNat
def k0_dev9 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_322 : BitVec 32 := 1#32
  let v288 : BitVec 32 := Scalar.muli v7 c1_i32_322
  let v289 : BitVec 32 := Scalar.addi c0_i32_323 v288
  v289.toNat
@[reducible] def k0_t4_loop : Scf.Loop 32 :=
  let c0_i32_356 : BitVec 32 := 0#32
  let c8_i32_357 : BitVec 32 := 8#32
  let v325 : BitVec 32 := Scalar.addi c0_i32_356 c8_i32_357
  let c1_i32_358 : BitVec 32 := 1#32
  ⟨c0_i32_356, v325, c1_i32_358⟩
def k0_off8 (k0_t4 : Fin k0_t4_loop.trips) : Fin 2 → Nat :=
  let c0_719 : Index := 0#32
  let c0_i32_356 : BitVec 32 := 0#32
  let c1_i32_358 : BitVec 32 := 1#32
  let arg18 : BitVec 32 := Scf.iv c0_i32_356 c1_i32_358 k0_t4
  let c128_i32_718 : BitVec 32 := 128#32
  let v627 : BitVec 32 := Scalar.muli arg18 c128_i32_718
  let v628 : Index := Scalar.indexCast v627
  ![0, v628.toNat]
def k0_off9 (k0_t4 : Fin k0_t4_loop.trips) : Fin 3 → Nat :=
  let c0_720 : Index := 0#32
  let c0_i32_356 : BitVec 32 := 0#32
  let c1_i32_358 : BitVec 32 := 1#32
  let arg18 : BitVec 32 := Scf.iv c0_i32_356 c1_i32_358 k0_t4
  let v630 : Index := Scalar.indexCast arg18
  let c0_721 : Index := 0#32
  ![0, v630.toNat, 0]
def k0_dev10 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_383 : BitVec 32 := 1#32
  let v341 : BitVec 32 := Scalar.muli v5 c1_i32_383
  let v342 : BitVec 32 := Scalar.addi c0_i32_384 v341
  v342.toNat
def k0_dev11 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_413 : BitVec 32 := 1#32
  let v364 : BitVec 32 := Scalar.muli v7 c1_i32_413
  let v365 : BitVec 32 := Scalar.addi c0_i32_414 v364
  v365.toNat
@[reducible] def k0_t5_loop : Scf.Loop 32 :=
  let c0_i32_447 : BitVec 32 := 0#32
  let c8_i32_448 : BitVec 32 := 8#32
  let v401 : BitVec 32 := Scalar.addi c0_i32_447 c8_i32_448
  let c1_i32_449 : BitVec 32 := 1#32
  ⟨c0_i32_447, v401, c1_i32_449⟩
def k0_off10 (k0_t5 : Fin k0_t5_loop.trips) : Fin 2 → Nat :=
  let c0_719 : Index := 0#32
  let c0_i32_447 : BitVec 32 := 0#32
  let c1_i32_449 : BitVec 32 := 1#32
  let arg18 : BitVec 32 := Scf.iv c0_i32_447 c1_i32_449 k0_t5
  let c128_i32_718 : BitVec 32 := 128#32
  let v627 : BitVec 32 := Scalar.muli arg18 c128_i32_718
  let v628 : Index := Scalar.indexCast v627
  ![0, v628.toNat]
def k0_off11 (k0_t5 : Fin k0_t5_loop.trips) : Fin 3 → Nat :=
  let c0_720 : Index := 0#32
  let c0_i32_447 : BitVec 32 := 0#32
  let c1_i32_449 : BitVec 32 := 1#32
  let arg18 : BitVec 32 := Scf.iv c0_i32_447 c1_i32_449 k0_t5
  let v630 : Index := Scalar.indexCast arg18
  let c0_721 : Index := 0#32
  ![0, v630.toNat, 0]
def k0_dev12 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_474 : BitVec 32 := 1#32
  let v417 : BitVec 32 := Scalar.muli v5 c1_i32_474
  let v418 : BitVec 32 := Scalar.addi c0_i32_475 v417
  v418.toNat
def k0_dev13 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_504 : BitVec 32 := 1#32
  let v440 : BitVec 32 := Scalar.muli v7 c1_i32_504
  let v441 : BitVec 32 := Scalar.addi c0_i32_505 v440
  v441.toNat
@[reducible] def k0_t6_loop : Scf.Loop 32 :=
  let c0_i32_538 : BitVec 32 := 0#32
  let c8_i32_539 : BitVec 32 := 8#32
  let v477 : BitVec 32 := Scalar.addi c0_i32_538 c8_i32_539
  let c1_i32_540 : BitVec 32 := 1#32
  ⟨c0_i32_538, v477, c1_i32_540⟩
def k0_off12 (k0_t6 : Fin k0_t6_loop.trips) : Fin 2 → Nat :=
  let c0_719 : Index := 0#32
  let c0_i32_538 : BitVec 32 := 0#32
  let c1_i32_540 : BitVec 32 := 1#32
  let arg18 : BitVec 32 := Scf.iv c0_i32_538 c1_i32_540 k0_t6
  let c128_i32_718 : BitVec 32 := 128#32
  let v627 : BitVec 32 := Scalar.muli arg18 c128_i32_718
  let v628 : Index := Scalar.indexCast v627
  ![0, v628.toNat]
def k0_off13 (k0_t6 : Fin k0_t6_loop.trips) : Fin 3 → Nat :=
  let c0_720 : Index := 0#32
  let c0_i32_538 : BitVec 32 := 0#32
  let c1_i32_540 : BitVec 32 := 1#32
  let arg18 : BitVec 32 := Scf.iv c0_i32_538 c1_i32_540 k0_t6
  let v630 : Index := Scalar.indexCast arg18
  let c0_721 : Index := 0#32
  ![0, v630.toNat, 0]
def k0_dev14 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_565 : BitVec 32 := 1#32
  let v493 : BitVec 32 := Scalar.muli v5 c1_i32_565
  let v494 : BitVec 32 := Scalar.addi c0_i32_566 v493
  v494.toNat
def k0_dev15 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_595 : BitVec 32 := 1#32
  let v516 : BitVec 32 := Scalar.muli v7 c1_i32_595
  let v517 : BitVec 32 := Scalar.addi c0_i32_596 v516
  v517.toNat
@[reducible] def k0_t7_loop : Scf.Loop 32 :=
  let c0_i32_629 : BitVec 32 := 0#32
  let c8_i32_630 : BitVec 32 := 8#32
  let v553 : BitVec 32 := Scalar.addi c0_i32_629 c8_i32_630
  let c1_i32_631 : BitVec 32 := 1#32
  ⟨c0_i32_629, v553, c1_i32_631⟩
def k0_off14 (k0_t7 : Fin k0_t7_loop.trips) : Fin 2 → Nat :=
  let c0_719 : Index := 0#32
  let c0_i32_629 : BitVec 32 := 0#32
  let c1_i32_631 : BitVec 32 := 1#32
  let arg18 : BitVec 32 := Scf.iv c0_i32_629 c1_i32_631 k0_t7
  let c128_i32_718 : BitVec 32 := 128#32
  let v627 : BitVec 32 := Scalar.muli arg18 c128_i32_718
  let v628 : Index := Scalar.indexCast v627
  ![0, v628.toNat]
def k0_off15 (k0_t7 : Fin k0_t7_loop.trips) : Fin 3 → Nat :=
  let c0_720 : Index := 0#32
  let c0_i32_629 : BitVec 32 := 0#32
  let c1_i32_631 : BitVec 32 := 1#32
  let arg18 : BitVec 32 := Scf.iv c0_i32_629 c1_i32_631 k0_t7
  let v630 : Index := Scalar.indexCast arg18
  let c0_721 : Index := 0#32
  ![0, v630.toNat, 0]
@[reducible] def k0_t8_loop : Scf.Loop 32 :=
  let c0_i32_703 : BitVec 32 := 0#32
  let c8_i32_704 : BitVec 32 := 8#32
  let v617 : BitVec 32 := Scalar.addi c0_i32_703 c8_i32_704
  let c1_i32_705 : BitVec 32 := 1#32
  ⟨c0_i32_703, v617, c1_i32_705⟩
def k0_off16 (k0_t8 : Fin k0_t8_loop.trips) : Fin 2 → Nat :=
  let c0_719 : Index := 0#32
  let c0_i32_703 : BitVec 32 := 0#32
  let c1_i32_705 : BitVec 32 := 1#32
  let arg18 : BitVec 32 := Scf.iv c0_i32_703 c1_i32_705 k0_t8
  let c128_i32_718 : BitVec 32 := 128#32
  let v627 : BitVec 32 := Scalar.muli arg18 c128_i32_718
  let v628 : Index := Scalar.indexCast v627
  ![0, v628.toNat]
def k0_off17 (k0_t8 : Fin k0_t8_loop.trips) : Fin 3 → Nat :=
  let c0_720 : Index := 0#32
  let c0_i32_703 : BitVec 32 := 0#32
  let c1_i32_705 : BitVec 32 := 1#32
  let arg18 : BitVec 32 := Scf.iv c0_i32_703 c1_i32_705 k0_t8
  let v630 : Index := Scalar.indexCast arg18
  let c0_721 : Index := 0#32
  ![0, v630.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S8x1024x8192 : Shape := ⟨3, ![8, 1024, 8192]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S8x64x1024x1024 : Shape := ⟨4, ![8, 64, 1024, 1024]⟩
abbrev S1x1x1024x1024 : Shape := ⟨4, ![1, 1, 1024, 1024]⟩
abbrev S8x64x1024 : Shape := ⟨3, ![8, 64, 1024]⟩
abbrev S8x64x1024x1 : Shape := ⟨4, ![8, 64, 1024, 1]⟩
abbrev S1x1x1024x1 : Shape := ⟨4, ![1, 1, 1024, 1]⟩
abbrev S8x64x128x1024 : Shape := ⟨4, ![8, 64, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S1024x8192, .f32⟩
  | .hbm, ⟨2, _⟩ => ⟨S8x1024x64x128, .f32⟩
  | .hbm, ⟨3, _⟩ => ⟨S8x1024x64x128, .f32⟩
  | .hbm, ⟨4, _⟩ => ⟨S8192x1024, .f32⟩
  | .hbm, ⟨5, _⟩ => ⟨S8x1024x8192, .f32⟩
  | .hbm, ⟨6, _⟩ => ⟨S8x1024x64x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S8x64x1024x1024, .f32⟩
  | .hbm, ⟨19, _⟩ => ⟨S_, .f32⟩
  | .hbm, ⟨20, _⟩ => ⟨S8x64x1024x1024, .f32⟩
  | .hbm, ⟨21, _⟩ => ⟨S8x64x1024x1024, .f32⟩
  | .hbm, ⟨22, _⟩ => ⟨S1x1x1024x1024, .i1⟩
  | .hbm, ⟨23, _⟩ => ⟨S_, .f32⟩
  | .hbm, ⟨24, _⟩ => ⟨S_, .f32⟩
  | .hbm, ⟨25, _⟩ => ⟨S8x64x1024x1024, .i1⟩
  | .hbm, ⟨26, _⟩ => ⟨S8x64x1024x1024, .f32⟩
  | .hbm, ⟨27, _⟩ => ⟨S8x64x1024x1024, .f32⟩
  | .hbm, ⟨28, _⟩ => ⟨S_, .f32⟩
  | .hbm, ⟨29, _⟩ => ⟨S8x64x1024, .f32⟩
  | .hbm, ⟨30, _⟩ => ⟨S8x64x1024x1, .f32⟩
  | .hbm, ⟨31, _⟩ => ⟨S8x64x1024x1024, .f32⟩
  | .hbm, ⟨32, _⟩ => ⟨S8x64x1024x1024, .f32⟩
  | .hbm, ⟨33, _⟩ => ⟨S8x64x1024x1024, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S8x64x1024, .f32⟩
  | .hbm, ⟨39, _⟩ => ⟨S8x64x1024x1, .f32⟩
  | .hbm, ⟨40, _⟩ => ⟨S_, .f32⟩
  | .hbm, ⟨41, _⟩ => ⟨S_, .f32⟩
  | .hbm, ⟨42, _⟩ => ⟨S8x64x1024x1, .i1⟩
  | .hbm, ⟨43, _⟩ => ⟨S8x64x1024x1, .f32⟩
  | .hbm, ⟨44, _⟩ => ⟨S8x64x1024x1, .f32⟩
  | .hbm, ⟨45, _⟩ => ⟨S8x64x1024x1024, .f32⟩
  | .hbm, ⟨46, _⟩ => ⟨S8x64x1024x1024, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S8x64x1024x1024, .i1⟩
  | .hbm, ⟨51, _⟩ => ⟨S8x64x1024x1024, .f32⟩
  | .hbm, ⟨52, _⟩ => ⟨S8x64x1024x1024, .f32⟩
  | .hbm, ⟨53, _⟩ => ⟨S8x64x128x1024, .f32⟩
  | .hbm, ⟨54, _⟩ => ⟨S8x1024x64x128, .f32⟩
  | .hbm, ⟨55, _⟩ => ⟨S8x1024x8192, .f32⟩
  | .hbm, ⟨56, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Segs.lean ====
/-
The kernel's body as a sequence of a few kinds of step, each stated once over the hop `h` it belongs to.

A device runs eight hops. At hop `h` it holds, in slot `h % 2` of the communication buffer, the weights of the
device `h` places to its left; it forwards them to its right neighbour (`segSend`), computes with them
(`segCompute`), and, its send done, returns a credit to its left neighbour and starts fetching the next hop's
keys and values (`segFree`, `segCredit`, `segFetch`). From hop 1 on it first waits for the weights and for the
credit (`segArrive`, `segAwait`).
-/
module

public import proofs.«01_k».proof.Defs
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Run

open Cert.KernelIdeal Cert.KernelIdeal.Gen
open Idealize.ShloMosaic Idealize.ShloMosaic.TcCoe Idealize.SL Idealize.SL.Sem

variable {F : FTy → Type} [FloatOps F] [Named F]

/-! ## The buffers -/

abbrev xM : Memref sig .tc .vmem S1x1024x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x1024x1024 .f32 := Memref.whole cc0_stg3_0
abbrev kM : Memref sig .tc .hbm S8x1024x64x128 .f32 := Memref.whole main_arg2
abbrev vM : Memref sig .tc .hbm S8x1024x64x128 .f32 := Memref.whole main_arg3
abbrev commM : Memref sig .tc .vmem S2x2x1024x1024 .bf16 := Memref.whole cc0_scratch0
abbrev privM : Memref sig .tc .vmem S1024x1024 .bf16 := Memref.whole cc0_scratch1
abbrev xbM : Memref sig .tc .vmem S1024x1024 .bf16 := Memref.whole cc0_scratch2
abbrev kblkM : Memref sig .tc .vmem S1024x8x128 .f32 := Memref.whole cc0_scratch3
abbrev vblkM : Memref sig .tc .vmem S1024x8x128 .f32 := Memref.whole cc0_scratch4
abbrev qsM : Memref sig .tc .vmem S1024x1024 .bf16 := Memref.whole cc0_scratch5
abbrev ctxM : Memref sig .tc .vmem S1024x1024 .bf16 := Memref.whole cc0_scratch6
abbrev biasM : Memref sig .tc .vmem S1024x1024 .f32 := Memref.whole cc0_scratch7

/-! ## Slots, semaphores and rectangles by number -/

theorem slot_inb (i : Fin 2) : ∀ a, (![i.val, 0, 0, 0] : Fin 4 → Nat) a + S1x2x1024x1024.size a ≤ S2x2x1024x1024.size a := by
  revert i; decide
theorem row_inb (i p : Fin 2) : ∀ a, (![i.val, p.val, 0, 0] : Fin 4 → Nat) a + S1x1x1024x1024.size a ≤ S2x2x1024x1024.size a := by
  revert i p; decide
theorem sem8_inb (h : Fin 8) : ∀ a, (![h.val] : Fin 1 → Nat) a + S1.size a ≤ S8.size a := by revert h; decide
theorem sem2_inb (h : Fin 2) : ∀ a, (![h.val] : Fin 1 → Nat) a + S1.size a ≤ S2.size a := by revert h; decide
theorem slot_words (i : Fin 2) :
    (Rect.unit (s := S2x2x1024x1024) ![i.val, 0, 0, 0] S1x2x1024x1024.size (slot_inb i)).WholeWords (EltTy.packing .bf16) := by
  revert i; decide

/-- The slot a hop's weights are in, and the other one, which they are sent to. -/
def sl (h : Fin 8) : Fin 2 := ⟨h.val % 2, Nat.mod_lt _ (by decide)⟩
def sl' (h : Fin 8) : Fin 2 := ⟨(h.val + 1) % 2, Nat.mod_lt _ (by decide)⟩

/-- Slot `i` of the communication buffer: a pair of weight matrices. -/
abbrev slotM (i : Fin 2) : Memref sig .tc .vmem S2x1024x1024 .bf16 :=
  (commM.slice (Rect.unit (s := S2x2x1024x1024) ![i.val, 0, 0, 0] S1x2x1024x1024.size (slot_inb i)) (fun _ => rfl)).squeeze
    S2x1024x1024 squeezes_S1x2x1024x1024_S2x1024x1024
/-- Matrix `p` of slot `i`. -/
abbrev rowR (i p : Fin 2) : Rect S2x2x1024x1024 :=
  Rect.unit (s := S2x2x1024x1024) ![i.val, p.val, 0, 0] S1x1x1024x1024.size (row_inb i p)
theorem slot_wordExact (i : Fin 2) : (slotM i).view.WordExact :=
  ((Memref.isWhole_whole (cc0_scratch0)).wordExact_slice rfl _ (slot_words i)).reshape _ _

abbrev sendS (h : Fin 8) : DmaSem sig :=
  ((cc0_scratch8.slice (Rect.unit (s := S8) ![h.val] S1.size (sem8_inb h))).squeeze S_ squeezes_S1_S_).sem
abbrev recvS (h : Fin 8) : DmaSem sig :=
  ((cc0_scratch9.slice (Rect.unit (s := S8) ![h.val] S1.size (sem8_inb h))).squeeze S_ squeezes_S1_S_).sem
abbrev kvS (i : Fin 2) : DmaSem sig :=
  ((cc0_scratch10.slice (Rect.unit (s := S2) ![i.val] S1.size (sem2_inb i))).squeeze S_ squeezes_S1_S_).sem
abbrev credS : Sem sig := cc0_scratch11.sem
abbrev barS : Sem sig := (SemArray.scalar (sig.barrier 0 rfl) : Sems sig S_).sem

/-- What device `d`'s hop `h` fetches of the keys (the values): its own batch row, eight heads. -/
abbrev kvSl (a : Memref sig .tc .hbm S8x1024x64x128 .f32) (d : Dev nD) (h : Fin 8) : Memref sig .tc .hbm S1024x8x128 .f32 :=
  (a.slice (Rect.unit (s := S8x1024x64x128) (k0_off1 d (BitVec.ofNat 32 h.val)) S1x1024x8x128.size (k0_off1_inb d h)) (fun _ => rfl)).squeeze
    S1024x8x128 squeezes_S1x1024x8x128_S1024x8x128

abbrev rMM : Rect S1024x1024 := Rect.unit (s := S1024x1024) ![0, 0] S1024x1024.size inb_S1024x1024_S1024x1024_0_0
abbrev r1MM : Rect S1x1024x1024 := Rect.unit (s := S1x1024x1024) ![0, 0, 0] S1x1024x1024.size inb_S1x1024x1024_S1x1024x1024_0_0_0

/-- A load, and a store, of a whole 1024×1024 matrix. -/
abbrev ldM {e : EltTy} (m : Memref sig .tc .vmem S1024x1024 e) : Prog (TpuEff nD τ sig (Elt F) Λ₀ .tc) (Vec F S1024x1024 e) :=
  Prog.lift (.load m rMM.toLoadRect (View.loadsAt_vmem h_S1024x1024))
abbrev stB (m : Memref sig .tc .vmem S1024x1024 .bf16) (hm : m.IsWhole) (w : FVec F S1024x1024 .bf16) :
    Prog (TpuEff nD τ sig (Elt F) Λ₀ .tc) PUnit :=
  Prog.lift (.store m rMM w Finset.univ
    (View.stores_vmem h_S1024x1024 (hm.storeExact_slice rfl _ packedbf16_S1024x1024_S1024x1024_0_0) (fun _ => rfl)) (.inl rfl))
abbrev ldRow (i p : Fin 2) : Prog (TpuEff nD τ sig (Elt F) Λ₀ .tc) (Vec F S1x1x1024x1024 .bf16) :=
  Prog.lift (.load commM (rowR i p).toLoadRect (View.loadsAt_vmem h_S1x1x1024x1024))
abbrev ld1 (m : Memref sig .tc .vmem S1x1024x1024 .f32) : Prog (TpuEff nD τ sig (Elt F) Λ₀ .tc) (Vec F S1x1024x1024 .f32) :=
  Prog.lift (.load m r1MM.toLoadRect (View.loadsAt_vmem h_S1x1024x1024))
abbrev stOut (w : FVec F S1x1024x1024 .f32) : Prog (TpuEff nD τ sig (Elt F) Λ₀ .tc) PUnit :=
  Prog.lift (.store outM r1MM w Finset.univ (View.stores_vmem_bits_univ h_S1x1024x1024 rfl) (.inl rfl))

theorem row_packed (i p : Fin 2) : (rowR i p).PackedRows (EltTy.packing .bf16) := by revert i p; decide

abbrev stRow (i p : Fin 2) (w : FVec F S1x1x1024x1024 .bf16) : Prog (TpuEff nD τ sig (Elt F) Λ₀ .tc) PUnit :=
  Prog.lift (.store commM (rowR i p) w Finset.univ
    (View.stores_vmem h_S1x1x1024x1024 ((Memref.isWhole_whole (cc0_scratch0)).storeExact_slice rfl _ (row_packed i p)) (fun _ => rfl)) (.inl rfl))

/-! ## The steps -/

/-- The device's own weights and its activations to bfloat16; the band mask. -/
def segInit : Prog (TpuEff nD τ sig (Elt F) Λ₀ .tc) PUnit := do
  let v8 ← ldM wqM
  let _ ← ldRow (F := F) 0 0
  stRow 0 0 (k0_pay4 v8)
  let v14 ← ldM woM
  let _ ← ldRow (F := F) 0 1
  stRow 0 1 (k0_pay5 v14)
  let v20 ← ld1 xM
  let _ ← ldM (F := F) xbM
  stB xbM (Memref.isWhole_whole _) (k0_pay6 v20)
  let _ ← ldM (F := F) biasM
  Prog.lift (.store biasM rMM (k0_pay9 (F := F) k0_pay7 k0_pay8) Finset.univ (View.stores_vmem_bits_univ h_S1024x1024 rfl) (.inl rfl))

/-- The handshake with both neighbours on the barrier semaphore. -/
def segBarrier (d : Dev nD) : Prog (TpuEff nD τ sig (Elt F) Λ₀ .tc) PUnit := do
  semSignalWord (⟨k0_dev1 d, k0_dev1_lt d⟩ : Dev nD) barS 1#32
  semSignalWord (⟨k0_dev2 d, k0_dev2_lt d⟩ : Dev nD) barS 1#32
  semWaitWord barS 2#32

/-- The accumulator starts at zero. -/
def segZero : Prog (TpuEff nD τ sig (Elt F) Λ₀ .tc) PUnit := do
  let _ ← ld1 (F := F) outM
  stOut (k0_pay10 (F := F))

/-- Start fetching hop `h`'s keys and values. -/
def segFetch (d : Dev nD) (h : Fin 8) : Prog (TpuEff nD τ sig (Elt F) Λ₀ .tc) PUnit := do
  Prog.lift (.enqueueDma (kvSl kM d h) (.here kblkM) (.dma (kvS 0)) ((View.wordExact_bits rfl).reshape _ _) (Memref.isWhole_whole (cc0_scratch3)).wordExact ⟨Or.inl rfl, trivial⟩)
  Prog.lift (.enqueueDma (kvSl vM d h) (.here vblkM) (.dma (kvS 1)) ((View.wordExact_bits rfl).reshape _ _) (Memref.isWhole_whole (cc0_scratch4)).wordExact ⟨Or.inl rfl, trivial⟩)

/-- Forward the weights in hand to the device `n`, into its other slot. -/
def segSend (n : Dev nD) (h : Fin 8) : Prog (TpuEff nD τ sig (Elt F) Λ₀ .tc) PUnit :=
  Prog.lift (.enqueueDma (slotM (sl h)) (.remote (Dev.tc n) (slotM (sl' h)) (.dma (sendS h))) (.dma (recvS h))
    (slot_wordExact (sl h)) (slot_wordExact (sl' h)) ⟨⟨rfl, Or.inl rfl⟩, trivial⟩)

/-- Wait for the weights sent at hop `h`. -/
def segArrive (h : Fin 8) : Prog (TpuEff nD τ sig (Elt F) Λ₀ .tc) PUnit :=
  Prog.lift (.waitDma2 (recvS h) (slotM (sl h)) (slotM (sl' h)) (slot_wordExact (sl h)) (slot_wordExact (sl' h)))

/-- Wait for a credit. -/
def segAwait : Prog (TpuEff nD τ sig (Elt F) Λ₀ .tc) PUnit := semWaitWord credS 1#32

/-- Wait for the end of hop `h`'s send. -/
def segFree (h : Fin 8) : Prog (TpuEff nD τ sig (Elt F) Λ₀ .tc) PUnit :=
  Prog.lift (.waitDma2 (sendS h) (slotM (sl' h)) (slotM (sl h)) (slot_wordExact (sl' h)) (slot_wordExact (sl h)))

/-- Return a credit to device `n`. -/
def segCredit (n : Dev nD) : Prog (TpuEff nD τ sig (Elt F) Λ₀ .tc) PUnit := semSignalWord n credS 1#32

/-- Wait for hop `h`'s keys and values. -/
def segKv (d : Dev nD) (h : Fin 8) : Prog (TpuEff nD τ sig (Elt F) Λ₀ .tc) PUnit := do
  Prog.lift (.waitDma2 (kvS 0) (kvSl kM d h) kblkM ((View.wordExact_bits rfl).reshape _ _) (Memref.isWhole_whole (cc0_scratch3)).wordExact)
  Prog.lift (.waitDma2 (kvS 1) (kvSl vM d h) vblkM ((View.wordExact_bits rfl).reshape _ _) (Memref.isWhole_whole (cc0_scratch4)).wordExact)

/-- One head: eight of them a hop. -/
def headBody (k : Fin k0_t1_loop.trips) (_ : Unit) : Prog (TpuEff nD τ sig (Elt F) Λ₀ .tc) Unit := do
  let v629 : Vec F S1024x128 .bf16 ← Prog.lift (.load qsM (Rect.unit (s := S1024x1024) (k0_off2 k) S1024x128.size (k0_off2_inb k)).toLoadRect (View.loadsAt_vmem h_S1024x128))
  let v631 : Vec F S1024x1x128 .f32 ← Prog.lift (.load kblkM (Rect.unit (s := S1024x8x128) (k0_off3 k) S1024x1x128.size (k0_off3_inb k)).toLoadRect (View.loadsAt_vmem h_S1024x1x128))
  let v635 : Vec F S1024x1024 .f32 ← ldM biasM
  let v641 : Vec F S1024x1x128 .f32 ← Prog.lift (.load vblkM (Rect.unit (s := S1024x8x128) (k0_off3 k) S1024x1x128.size (k0_off3_inb k)).toLoadRect (View.loadsAt_vmem h_S1024x1x128))
  let _ : Vec F S1024x128 .bf16 ← Prog.lift (.load ctxM (Rect.unit (s := S1024x1024) (k0_off2 k) S1024x128.size (k0_off2_inb k)).toLoadRect (View.loadsAt_vmem h_S1024x128))
  Prog.lift (.store ctxM (Rect.unit (s := S1024x1024) (k0_off2 k) S1024x128.size (k0_off2_inb k)) (k0_pay14 v629 v631 v635 v641) Finset.univ
    (View.stores_vmem h_S1024x128 ((Memref.isWhole_whole (cc0_scratch6)).storeExact_slice rfl _ (k0_off2_packedbf16 k)) (fun _ => rfl)) (.inl rfl))
  pure ⟨⟩

/-- Queries, the output weights. -/
def segQuery (i : Fin 2) : Prog (TpuEff nD τ sig (Elt F) Λ₀ .tc) PUnit := do
  let v78 ← ldRow (F := F) i 0
  let _ ← ldM (F := F) privM
  stB privM (Memref.isWhole_whole _) (k0_pay11 v78)
  let v83 ← ldM (F := F) xbM
  let v84 ← ldM (F := F) privM
  let _ ← ldM (F := F) qsM
  stB qsM (Memref.isWhole_whole _) (k0_pay12 v83 v84)
  let v92 ← ldRow (F := F) i 1
  let _ ← ldM (F := F) privM
  stB privM (Memref.isWhole_whole _) (k0_pay13 v92)

/-- The eight heads. -/
def segHeads : Prog (TpuEff nD τ sig (Elt F) Λ₀ .tc) Unit := Scf.Loop.for k0_t1_loop k0_t1_ok ⟨⟩ (headBody (F := F))

/-- The accumulation. -/
def segAcc : Prog (TpuEff nD τ sig (Elt F) Λ₀ .tc) PUnit := do
  let v98 ← ld1 (F := F) outM
  let v100 ← ldM (F := F) ctxM
  let v101 ← ldM (F := F) privM
  let _ ← ld1 (F := F) outM
  stOut (k0_pay15 v98 v100 v101)

/-- A hop's computation. -/
def segCompute (d : Dev nD) (h : Fin 8) : Prog (TpuEff nD τ sig (Elt F) Λ₀ .tc) PUnit := do
  segKv d h
  segQuery (sl h)
  segHeads
  segAcc

/-- A middle hop up to its send's end: the weights of hop `h - 1`'s send have come, a credit too. -/
def segHop (d n : Dev nD) (h' h : Fin 8) : Prog (TpuEff nD τ sig (Elt F) Λ₀ .tc) PUnit := do
  segArrive h'
  segAwait
  segSend n h
  segCompute d h
  segFree h

/-- The whole body. -/
def segBody : Prog (TpuEff nD τ sig (Elt F) Λ₀ .tc) PUnit := do
  let d ← Prog.lift .deviceId
  segInit
  segBarrier d
  segZero
  segFetch d 0
  segSend ⟨k0_dev3 d, k0_dev3_lt d⟩ 0
  segCompute d 0
  segFree 0
  segCredit ⟨k0_dev4 d, k0_dev4_lt d⟩
  segFetch d 1
  segHop d ⟨k0_dev5 d, k0_dev5_lt d⟩ 0 1
  segCredit ⟨k0_dev6 d, k0_dev6_lt d⟩
  segFetch d 2
  segHop d ⟨k0_dev7 d, k0_dev7_lt d⟩ 1 2
  segCredit ⟨k0_dev8 d, k0_dev8_lt d⟩
  segFetch d 3
  segHop d ⟨k0_dev9 d, k0_dev9_lt d⟩ 2 3
  segCredit ⟨k0_dev10 d, k0_dev10_lt d⟩
  segFetch d 4
  segHop d ⟨k0_dev11 d, k0_dev11_lt d⟩ 3 4
  segCredit ⟨k0_dev12 d, k0_dev12_lt d⟩
  segFetch d 5
  segHop d ⟨k0_dev13 d, k0_dev13_lt d⟩ 4 5
  segCredit ⟨k0_dev14 d, k0_dev14_lt d⟩
  segFetch d 6
  segHop d ⟨k0_dev15 d, k0_dev15_lt d⟩ 5 6
  segFetch d 7
  segArrive 6
  segCompute d 7

set_option maxRecDepth 65536 in
set_option maxHeartbeats 2000000 in
/-- The kernel's body is that sequence. -/
theorem body_eq (t : Fin cfg0.N) : bodyAt0 (F := F) t = segBody := by
  rw [fin_N0 t]
  rw [bodyAt0, cc0_body_eq_skeleton]
  unfold cc0_body_skel segBody
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton]
  simp only [k0_part1_skel, k0_part2_skel, k0_part3_skel, k0_part4_skel, k0_part5_skel, k0_part6_skel, k0_part7_skel,
    k0_part8_skel, k0_part9_skel, k0_part10_skel, k0_part11_skel, k0_part12_skel, k0_part13_skel, k0_part14_skel,
    k0_part15_skel, k0_part16_skel, k0_part17_skel, k0_part18_skel, k0_part19_skel, k0_part20_skel, k0_part21_skel,
    k0_part22_skel, k0_part23_skel, k0_part24_skel, segHop, segCompute, segInit, segBarrier, segZero, segFetch,
    segKv, segQuery, segAcc, bind_assoc, pure_bind]
  rfl

end Cert.KernelIdeal.Run

end
-- ==== Proof.Common.lean ====
/-
The ring protocol of the kernel, as assertions.

Every device hands the pair of weight matrices in its current slot of the communication buffer to the device on
its right, whose other slot they land in. The cells of the protocol, one round each:

* the barrier cell of a device: one unit from each neighbour at entry; the right neighbour's unit carries that
  neighbour's second slot, the destination of the first send;
* the receive cell of hop `h`: the sender's transfer, which carries the slot filled;
* the send cell of hop `h`: the own transfer's end, which gives back the half of the slot the transfer held;
* the credit cell: six units from the right neighbour, the `h`-th of which tells that the slots of hops `1` to `h`
  are released. A slot itself waits in an invariant between its reader's release and its writer's next send.
-/
module

public import proofs.«01_k».proof.Proof.Segs
public import Idealize.ShloMosaic.Lib.Pipeline.Launch
public import Idealize.ShloMosaic.Lib.Pipeline.Kit
public import Idealize.ShloMosaic.Lib.Tactic
public import Idealize.ShloMosaic.Lib.Release
public import Idealize.ShloMosaic.Lib.Transfers
public import Idealize.ShloMosaic.Lib.ValueIdxCore

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

/-! ## The algebra -/

abbrev UC : Type := URounds (GSem nD τ sig) ℕ
abbrev US : Type := Release.USlots (Dev nD × ℕ)
abbrev UU : Type := UR sig nD τ × (UC × (US × Counters))

local notation "𝕄" => MT nD τ sig ℕ (Elt F) ℕ UU ℕ

/-- The pipeline's rounds, the ring's rounds and the slots' invariants inside it. -/
def EP : Emb (UR sig nD τ) (MT nD τ sig ℕ (Elt F) ℕ UU ℕ) := (Emb.inl : Emb (UR sig nD τ) UU).trans uEmb.toEmb
def ER : Emb UC (MT nD τ sig ℕ (Elt F) ℕ UU ℕ) :=
  ((Emb.inl : Emb UC (UC × (US × Counters))).trans (Emb.inr : Emb _ UU)).trans uEmb.toEmb
def ES : Emb US (MT nD τ sig ℕ (Elt F) ℕ UU ℕ) :=
  (((Emb.inl : Emb US (US × Counters)).trans (Emb.inr : Emb _ (UC × (US × Counters)))).trans (Emb.inr : Emb _ UU)).trans uEmb.toEmb
def EC : UEmb Counters (MT nD τ sig ℕ (Elt F) ℕ UU ℕ) := countersEmb

instance EP_landsIn : (EP (F := F)).LandsIn (upEmb : UEmb _ 𝕄) := by unfold EP; infer_instance
instance ER_landsIn : (ER (F := F)).LandsIn (upEmb : UEmb _ 𝕄) := by unfold ER; infer_instance
instance ES_landsIn : (ES (F := F)).LandsIn (upEmb : UEmb _ 𝕄) := by unfold ES; infer_instance

abbrev 𝒱₀ : Variants := Variants.none

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩
set_option backward.proofsInPublic true in
/-- The device `h` places to the left of `c`. -/
def back (c : Dev nD) (h : ℕ) : Dev nD := ⟨(c.val + 8 - h % 8) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem back_zero (c : Dev nD) : back c 0 = c := by revert c; decide
theorem back_nxt (c : Dev nD) (h : ℕ) : back (nxt c) (h + 1) = back c h := by
  have hc : c.val < 8 := c.isLt
  apply Fin.ext; simp only [back, nxt]; omega
def ring : Dev nD ≃ Dev nD := ⟨nxt, prv, prv_nxt, nxt_prv⟩

/-! ## Contents -/

/-- What the devices start from: activations, the two weight blocks, keys and values. -/
structure Vals (F : FTy → Type) where
  x : Dev nD → Vec F S1x1024x1024 .f32
  wq : Dev nD → Vec F S1024x1024 .f32
  wo : Dev nD → Vec F S1024x1024 .f32
  kk : Dev nD → Vec F S8x1024x64x128 .f32
  vv : Dev nD → Vec F S8x1024x64x128 .f32

variable (B : Vals F)

/-- Device `j`'s weights in the communication buffer, in either slot. -/
def wbuf (j : Dev nD) : Vec F S2x2x1024x1024 .bf16 := fun i =>
  if (i 1).val = 0 then k0_pay4 (B.wq j) (ix4 (0 : Fin 1) (0 : Fin 1) (i 2) (i 3))
  else k0_pay5 (B.wo j) (ix4 (0 : Fin 1) (0 : Fin 1) (i 2) (i 3))

/-! ## The cells -/

abbrev barCell (c : Dev nD) : GSem nD τ sig := ((c : Thread nD τ), .reg barS)
abbrev credCell (c : Dev nD) : GSem nD τ sig := ((c : Thread nD τ), .reg credS)
abbrev sendCell (c : Dev nD) (h : Fin 8) : GSem nD τ sig := ((c : Thread nD τ), .dma (sendS h))
abbrev recvCell (c : Dev nD) (h : Fin 8) : GSem nD τ sig := ((c : Thread nD τ), .dma (recvS h))

theorem barS_val : (barS : Sem sig).val = 1 := by decide
theorem credS_val : (credS : Sem sig).val = 0 := by decide
theorem sendS_val (h : Fin 8) : (sendS h).val = 4 + h.val := by revert h; decide
theorem recvS_val (h : Fin 8) : (recvS h).val = 12 + h.val := by revert h; decide
theorem kvS_val (i : Fin 2) : (kvS i).val = 20 + i.val := by revert i; decide

abbrev N : ℕ := (slotM 0).view.dmaCredit
theorem N_pos : 0 < N := View.dmaCredit_pos _ (by decide)

/-! ## The slots -/

/-- Slot `i` of device `c` at the share `q`, holding device `j`'s weights. -/
def slotPts (c : Dev nD) (i : Fin 2) (q : PosShare TreeShare) (j : Dev nD) : sProp 𝕄 :=
  (slotM i).view.loc (c : Thread nD τ) ↦[(slotM i).view.set]{q} wbuf B j
/-- Slot `i` of device `c` at any contents. -/
def slotAny (c : Dev nD) (i : Fin 2) : sProp 𝕄 :=
  Release.slot ((slotM i).view.loc (c : Thread nD τ)) (slotM i).view.set

omit [FloatOps F] [Named F] in
theorem slotAny_excl (c : Dev nD) (i : Fin 2) : iprop(slotAny (F := F) c i ∗ slotAny c i) ⊢ (False : sProp 𝕄) := by
  unfold slotAny
  refine Release.slot_slot_false ?_
  rw [View.set]
  exact Finset.map_nonempty.mpr ⟨fun a => ⟨0, by revert a; decide⟩, Finset.mem_univ _⟩

instance slotPts_storable (c i q j) : BI.Storable (upEmb : UEmb _ 𝕄) (slotPts B c i q j) := by unfold slotPts; infer_instance
omit [FloatOps F] [Named F] in
instance slotAny_storable (c : Dev nD) (i : Fin 2) : BI.Storable (upEmb : UEmb _ 𝕄) (slotAny (F := F) c i) := by unfold slotAny; infer_instance

/-! ## The schedule -/

/-- The slots of hops `1` to `h` of device `d` are released. -/
def relUpTo (d : Dev nD) (h : ℕ) : sProp 𝕄 := bigSep (Finset.Icc 1 h) (fun i => Release.released ES (d, i) 1)

omit [FloatOps F] [Named F] in
instance relUpTo_persistent (d : Dev nD) (h : ℕ) : BI.Persistent (relUpTo (F := F) d h) := by unfold relUpTo; infer_instance
omit [FloatOps F] [Named F] in
instance relUpTo_storable (d : Dev nD) (h : ℕ) : BI.Storable (upEmb : UEmb _ 𝕄) (relUpTo (F := F) d h) := by unfold relUpTo; infer_instance

def fin2 (n : ℕ) : Fin 2 := ⟨n % 2, Nat.mod_lt _ (by decide)⟩

def rd : Rounds.Schedule (GSem nD τ sig) ℕ 𝕄 where
  duties g r := if r = 0 ∧ g.1.2 = .tc then
      (match g.2 with
        | .reg s => if s.val = 1 then {0, 1} else Finset.Icc 1 6
        | .dma s => if (4 ≤ s.val ∧ s.val < 11) ∨ (12 ≤ s.val ∧ s.val < 19) then {0} else ∅)
    else ∅
  unitless _ := False
  amount g _ _ := match g.2 with | .reg _ => 1 | .dma _ => N
  payload g _ d := match g.2 with
    | .reg s => if s.val = 1 then (if d = 0 then slotAny (nxt g.1.1) 1 else iprop(emp)) else relUpTo (nxt g.1.1) d
    | .dma s => if s.val < 12 then slotPts B g.1.1 (fin2 s.val) fullShare.right (back g.1.1 (s.val - 4))
        else slotPts B g.1.1 (fin2 (s.val + 1)) fullShare (back g.1.1 (s.val - 12 + 1))
  amount_pos g _ _ _ := by
    rcases g with ⟨t, s | s⟩
    · exact Nat.one_pos
    · exact N_pos

instance rd_payload_storable (g : GSem nD τ sig) (r d : ℕ) : BI.Storable (upEmb : UEmb _ 𝕄) ((rd B).payload g r d) := by
  rcases g with ⟨t, s | s⟩ <;> dsimp only [rd] <;> (repeat' split) <;> infer_instance

section Sched
variable (c : Dev nD)

theorem duties_bar : (rd B).duties (barCell c) 0 = {0, 1} := by
  dsimp only [rd]; rw [if_pos ⟨rfl, rfl⟩, if_pos barS_val]
theorem duties_cred : (rd B).duties (credCell c) 0 = Finset.Icc 1 6 := by
  dsimp only [rd]; rw [if_pos ⟨rfl, rfl⟩, if_neg (by rw [credS_val]; decide)]
theorem duties_send (h : Fin 8) (hh : h.val < 7) : (rd B).duties (sendCell c h) 0 = {0} := by
  dsimp only [rd]; rw [if_pos ⟨rfl, rfl⟩, if_pos (by rw [sendS_val]; omega)]
theorem duties_recv (h : Fin 8) (hh : h.val < 7) : (rd B).duties (recvCell c h) 0 = {0} := by
  dsimp only [rd]; rw [if_pos ⟨rfl, rfl⟩, if_pos (by rw [recvS_val]; omega)]
theorem duties_later (g : GSem nD τ sig) : ∀ r, 1 ≤ r → (rd B).duties g r = ∅ :=
  fun r hr => by dsimp only [rd]; rw [if_neg fun h => by omega]

theorem amount_bar (d : ℕ) : (rd B).amount (barCell c) 0 d = 1 := rfl
theorem amount_cred (d : ℕ) : (rd B).amount (credCell c) 0 d = 1 := rfl
theorem amount_send (h : Fin 8) (d : ℕ) : (rd B).amount (sendCell c h) 0 d = N := rfl
theorem amount_recv (h : Fin 8) (d : ℕ) : (rd B).amount (recvCell c h) 0 d = N := rfl

theorem expect_bar : (rd B).expect (barCell c) 0 = 2 := by
  unfold Schedule.expect Schedule.amountOf; rw [duties_bar]; rfl
theorem expect_cred : (rd B).expect (credCell c) 0 = 6 := by
  unfold Schedule.expect Schedule.amountOf; rw [duties_cred]; rfl
theorem expect_send (h : Fin 8) (hh : h.val < 7) : (rd B).expect (sendCell c h) 0 = N := by
  unfold Schedule.expect Schedule.amountOf; rw [duties_send B c h hh, Finset.sum_singleton]; rfl
theorem expect_recv (h : Fin 8) (hh : h.val < 7) : (rd B).expect (recvCell c h) 0 = N := by
  unfold Schedule.expect Schedule.amountOf; rw [duties_recv B c h hh, Finset.sum_singleton]; rfl

theorem payload_bar_zero : (rd B).payload (barCell c) 0 0 = slotAny (nxt c) 1 := by
  dsimp only [rd]; rw [if_pos barS_val, if_pos rfl]
theorem payload_bar_one : (rd B).payload (barCell c) 0 1 = iprop(emp) := by
  dsimp only [rd]; rw [if_pos barS_val, if_neg (by decide)]
theorem payload_cred (d : ℕ) : (rd B).payload (credCell c) 0 d = relUpTo (nxt c) d := by
  dsimp only [rd]; rw [if_neg (by rw [credS_val]; decide)]
theorem payload_send (h : Fin 8) (d : ℕ) : (rd B).payload (sendCell c h) 0 d = slotPts B c (sl h) fullShare.right (back c h.val) := by
  have hv := sendS_val h
  dsimp only [rd]; rw [if_pos (by omega)]
  have h1 : fin2 (sendS h).val = sl h := by apply Fin.ext; simp only [fin2, sl]; omega
  have h2 : (sendS h).val - 4 = h.val := by omega
  rw [h1, h2]
theorem payload_recv (h : Fin 8) (d : ℕ) : (rd B).payload (recvCell c h) 0 d = slotPts B c (sl' h) fullShare (back c (h.val + 1)) := by
  have hv := recvS_val h
  dsimp only [rd]; rw [if_neg (by omega)]
  have h1 : fin2 ((recvS h).val + 1) = sl' h := by apply Fin.ext; simp only [fin2, sl']; omega
  have h2 : (recvS h).val - 12 = h.val := by omega
  rw [h1, h2]

theorem rest_bar : bigSep ((rd B).duties (barCell c) 0 \ ∅) (fun d => (rd B).payload (barCell c) 0 d) = iprop(slotAny (nxt c) 1 ∗ emp) := by
  rw [Finset.sdiff_empty, duties_bar, bigSep_insert (by decide), bigSep_singleton, payload_bar_zero, payload_bar_one]
  rfl
theorem rest_send (h : Fin 8) (hh : h.val < 7) :
    bigSep ((rd B).duties (sendCell c h) 0 \ ∅) (fun d => (rd B).payload (sendCell c h) 0 d) = slotPts B c (sl h) fullShare.right (back c h.val) := by
  rw [Finset.sdiff_empty, duties_send B c h hh, bigSep_singleton, payload_send]
theorem rest_recv (h : Fin 8) (hh : h.val < 7) :
    bigSep ((rd B).duties (recvCell c h) 0 \ ∅) (fun d => (rd B).payload (recvCell c h) 0 d) = slotPts B c (sl' h) fullShare (back c (h.val + 1)) := by
  rw [Finset.sdiff_empty, duties_recv B c h hh, bigSep_singleton, payload_recv]

end Sched

/-! ## What a device owes, and the levels -/

def f8 (h : ℕ) : Fin 8 := ⟨h % 8, Nat.mod_lt _ (by decide)⟩

def owS (c : Dev nD) (h : ℕ) : CellTallies nD τ sig ℕ := tallyAt (recvCell (nxt c) (f8 h)) 0 N
def owC (c : Dev nD) (h : ℕ) : CellTallies nD τ sig ℕ := tallyAt (credCell (prv c)) h 1
/-- What is owed once hop `h`'s send is issued, and before it. -/
def oAfter (c : Dev nD) (h : ℕ) : CellTallies nD τ sig ℕ :=
  (∑ i ∈ Finset.Ico (h + 1) 7, owS c i) + ∑ i ∈ Finset.Ico (h + 1) 7, owC c i
def oAt (c : Dev nD) (h : ℕ) : CellTallies nD τ sig ℕ :=
  (∑ i ∈ Finset.Ico h 7, owS c i) + ∑ i ∈ Finset.Ico (h + 1) 7, owC c i
def o₁ (c : Dev nD) : CellTallies nD τ sig ℕ := oAt c 0 + tallyAt (barCell (nxt c)) 0 1
def o₀ (c : Dev nD) : CellTallies nD τ sig ℕ := o₁ c + tallyAt (barCell (prv c)) 0 1

theorem oAt_send (c : Dev nD) {h : ℕ} (hh : h < 7) : oAt c h = oAfter c h + owS c h := by
  unfold oAt oAfter
  rw [Finset.sum_eq_sum_Ico_succ_bot hh]
  abel
theorem oAfter_cred (c : Dev nD) {h : ℕ} (hh : h < 6) : oAfter c h = oAt c (h + 1) + owC c (h + 1) := by
  unfold oAt oAfter
  rw [Finset.sum_eq_sum_Ico_succ_bot (f := owC c) (show h + 1 < 7 by omega)]
  abel
theorem oAfter_six (c : Dev nD) : oAfter c 6 = 0 := by unfold oAfter; simp
theorem oAt_seven (c : Dev nD) : oAt c 7 = 0 := by unfold oAt; simp

def L (g : GSem nD τ sig) : Finset ℕ := if g.1.2 = .tc then Finset.range 7 else ∅
/-- Hop by hop: the barrier below everything owed later, a hop's receive below its credit, and both below the next
    hop's; the cells no other device raises at the bottom. -/
def lv (g : GSem nD τ sig) (ι : ℕ) : ℕ := match g.2 with
  | .reg s => if s.val = 1 then 1 else 2 * ι + 11
  | .dma s => if 12 ≤ s.val ∧ s.val < 20 then 2 * (s.val - 12) + 12 else 0

theorem L_of_ne (g : GSem nD τ sig) (h : g.1.2 ≠ .tc) : L g = ∅ := if_neg h
theorem L_tc (c : Dev nD) (sm : SemLoc sig) : L ((c : Thread nD τ), sm) = Finset.range 7 := if_pos rfl

theorem owS_pos {c : Dev nD} {h : ℕ} {g : GSem nD τ sig} {u : ℕ} (hg : 0 < owS c h g u) : g = recvCell (nxt c) (f8 h) ∧ u = 0 := by
  unfold owS at hg; rw [tallyAt_apply] at hg
  by_contra hn; rw [if_neg hn] at hg; exact Nat.lt_irrefl 0 hg
theorem owC_pos {c : Dev nD} {h : ℕ} {g : GSem nD τ sig} {u : ℕ} (hg : 0 < owC c h g u) : g = credCell (prv c) ∧ u = h := by
  unfold owC at hg; rw [tallyAt_apply] at hg
  by_contra hn; rw [if_neg hn] at hg; exact Nat.lt_irrefl 0 hg

theorem add_pos_or {O P : CellTallies nD τ sig ℕ} {g : GSem nD τ sig} {u : ℕ} (h : 0 < (O + P) g u) : 0 < O g u ∨ 0 < P g u := by
  rw [Pi.add_apply, Finsupp.add_apply] at h; omega
theorem sum_pos_ex {S : Finset ℕ} {f : ℕ → CellTallies nD τ sig ℕ} {g : GSem nD τ sig} {u : ℕ} (h : 0 < (∑ i ∈ S, f i) g u) :
    ∃ i ∈ S, 0 < f i g u := by
  induction S using Finset.induction_on with
  | empty => rw [Finset.sum_empty] at h; exact absurd h (Nat.lt_irrefl 0)
  | insert a S ha ih =>
    rw [Finset.sum_insert ha] at h
    rcases add_pos_or h with h | h
    · exact ⟨a, Finset.mem_insert_self _ _, h⟩
    · obtain ⟨i, hi, h⟩ := ih h
      exact ⟨i, Finset.mem_insert_of_mem hi, h⟩

/-- Every cell owed once hop `h`'s debts remain is at level `2 h + 12` at least. -/
theorem lv_owS {c : Dev nD} {h : ℕ} (hh : h < 7) {g : GSem nD τ sig} {u : ℕ} (hg : 0 < owS c h g u) : lv g u = 2 * h + 12 ∧ u ∈ L g := by
  obtain ⟨rfl, rfl⟩ := owS_pos hg
  have hv := recvS_val (f8 h)
  have h8 : (f8 h).val = h := Nat.mod_eq_of_lt (by omega)
  refine ⟨?_, ?_⟩
  · dsimp only [lv]; rw [if_pos (by omega)]; omega
  · rw [L_tc]; decide
theorem lv_owC {c : Dev nD} {h : ℕ} (hh : h < 7) {g : GSem nD τ sig} {u : ℕ} (hg : 0 < owC c h g u) : lv g u = 2 * h + 11 ∧ u ∈ L g := by
  obtain ⟨rfl, rfl⟩ := owC_pos hg
  refine ⟨?_, ?_⟩
  · dsimp only [lv]; rw [if_neg (by rw [credS_val]; decide)]
  · rw [L_tc]; exact Finset.mem_range.mpr hh

theorem lv_oAt {c : Dev nD} {h : ℕ} {g : GSem nD τ sig} {u : ℕ} (hg : 0 < oAt c h g u) : 2 * h + 11 < lv g u ∧ u ∈ L g := by
  unfold oAt at hg
  rcases add_pos_or hg with hg | hg <;> obtain ⟨i, hi, hg⟩ := sum_pos_ex hg <;> have hi := Finset.mem_Ico.mp hi
  · obtain ⟨h1, h2⟩ := lv_owS hi.2 hg
    exact ⟨by omega, h2⟩
  · obtain ⟨h1, h2⟩ := lv_owC hi.2 hg
    exact ⟨by omega, h2⟩
theorem lv_oAfter {c : Dev nD} {h : ℕ} {g : GSem nD τ sig} {u : ℕ} (hg : 0 < oAfter c h g u) : 2 * h + 12 < lv g u ∧ u ∈ L g := by
  unfold oAfter at hg
  rcases add_pos_or hg with hg | hg <;> obtain ⟨i, hi, hg⟩ := sum_pos_ex hg <;> have hi := Finset.mem_Ico.mp hi
  · obtain ⟨h1, h2⟩ := lv_owS hi.2 hg
    exact ⟨by omega, h2⟩
  · obtain ⟨h1, h2⟩ := lv_owC hi.2 hg
    exact ⟨by omega, h2⟩
theorem lv_o₀ {c : Dev nD} {g : GSem nD τ sig} {u : ℕ} (hg : 0 < o₀ c g u) : 0 < lv g u ∧ u ∈ L g := by
  have hb : ∀ d : Dev nD, 0 < (tallyAt (barCell d) 0 1 : CellTallies nD τ sig ℕ) g u → 0 < lv g u ∧ u ∈ L g := fun d hg => by
    rw [tallyAt_apply] at hg
    have h : g = barCell d ∧ u = 0 := by by_contra hn; rw [if_neg hn] at hg; exact Nat.lt_irrefl 0 hg
    obtain ⟨rfl, rfl⟩ := h
    refine ⟨?_, by rw [L_tc]; decide⟩
    dsimp only [lv]; rw [if_pos barS_val]; decide
  unfold o₀ o₁ at hg
  rcases add_pos_or hg with hg | hg
  · rcases add_pos_or hg with hg | hg
    · exact ⟨by have := (lv_oAt hg).1; omega, (lv_oAt hg).2⟩
    · exact hb _ hg
  · exact hb _ hg

omit [FloatOps F] [Named F] in
/-- A wait at a level below everything owed. -/
theorem mayWait_of (c : Dev nD) (sm : SemLoc sig) (ι b : ℕ) (hι : ι < 7) (hb : lv ((c : Thread nD τ), sm) ι ≤ b)
    (O : CellTallies nD τ sig ℕ) (hO : ∀ (g : GSem nD τ sig) (u : ℕ), 0 < O g u → b < lv g u ∧ u ∈ L g) :
    (levAts L lv : sProp 𝕄) ⊢ MayWait (c : Thread nD τ) sm ι O :=
  MayOwe.of_cut (L := L) (lev := lv) b (fun p hp => by rw [Finset.mem_singleton.mp hp, L_tc]; exact Finset.mem_range.mpr hι)
    (fun g u hg => (hO g u hg).2) (fun p hp => by rw [Finset.mem_singleton.mp hp]; exact hb) (fun g u hg => (hO g u hg).1)

theorem lv_low (c : Dev nD) (s : DmaSem sig) (h : s.val < 12 ∨ 20 ≤ s.val) (ι : ℕ) : lv ((c : Thread nD τ), .dma s) ι = 0 := by
  dsimp only [lv]; rw [if_neg (by omega)]

end Cert.KernelIdeal.Run
end
-- ==== Proof.Local.lean ====
module

public import proofs.«01_k».proof.Proof.Common

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig ℕ (Elt F) ℕ UU ℕ

variable (B : Vals F)

/-! ## Programs, and buffers whole -/

/-- Device `c`'s thread runs `p` to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A step shown alone runs in front of a continuation. -/
theorem seg_step {α β : Type} {c : Dev nD} {p : Prog (TpuEff nD τ sig (Elt F) Λ₀ .tc) α} {P R : sProp 𝕄}
    (h : P ⊢ WP c p (fun _ => R)) {k : α → Prog (TpuEff nD τ sig (Elt F) Λ₀ .tc) β} {Q : β → sProp 𝕄} :
    P ⊢ iprop((∀ a, R -∗ WP c (k a) Q) -∗ WP c (p >>= k) Q) := by
  show P ⊢ iprop((∀ a, R -∗ WP c (k a) Q) -∗ wp frame (wpE (defs₀ (F := F)) 𝒱₀ (c : Thread nD τ) none) Set.univ (p >>= k) Q)
  rw [wp_bind]
  iintro HP HK
  iapply (wp_wand_r _ _ _)
  isplitl [HP]
  · iapply h; iexact HP
  · iexact HK

/-- Buffer `b` of device `c` whole, at the contents `f`. -/
abbrev pW (c : Dev nD) (b : Ref sig .tc) (f : Buf (Elt F) ((c : Thread nD τ).loc b)) : sProp 𝕄 :=
  ((c : Thread nD τ).loc b) ↦{fullShare} f

theorem hz2 : (![0, 0] : Fin 2 → Nat) = fun _ => 0 := by decide
theorem hz3 : (![0, 0, 0] : Fin 3 → Nat) = fun _ => 0 := by decide

/-! ## The values of the steps -/

def xbV (c : Dev nD) : Vec F S1024x1024 .bf16 := k0_pay6 (B.x c)
def biasV : Vec F S1024x1024 .f32 := k0_pay9 (F := F) k0_pay7 k0_pay8
def wqV (j : Dev nD) : Vec F S1024x1024 .bf16 := k0_pay11 (k0_pay4 (B.wq j))
def woV (j : Dev nD) : Vec F S1024x1024 .bf16 := k0_pay13 (k0_pay5 (B.wo j))
/-- The queries device `c` computes with device `j`'s weights. -/
def qsV (c j : Dev nD) : Vec F S1024x1024 .bf16 := k0_pay12 (xbV B c) (wqV B j)
/-- The keys and values of hop `h`. -/
def kV (c : Dev nD) (h : Fin 8) : Vec F S1024x8x128 .f32 := (kvSl kM c h).view.read (Elt F) (B.kk c)
def vV (c : Dev nD) (h : Fin 8) : Vec F S1024x8x128 .f32 := (kvSl vM c h).view.read (Elt F) (B.vv c)

theorem trips8 : k0_t1_loop.trips = 8 := by decide

/-- One head's result. -/
def headOut (q : Vec F S1024x1024 .bf16) (kb vb : Vec F S1024x8x128 .f32) (k : Fin k0_t1_loop.trips) : Vec F S1024x128 .bf16 :=
  k0_pay14
    (qsM.view.readAt (Elt F) (Rect.unit (s := S1024x1024) (k0_off2 k) S1024x128.size (k0_off2_inb k)).toLoadRect q)
    (kblkM.view.readAt (Elt F) (Rect.unit (s := S1024x8x128) (k0_off3 k) S1024x1x128.size (k0_off3_inb k)).toLoadRect kb)
    (biasV (F := F))
    (vblkM.view.readAt (Elt F) (Rect.unit (s := S1024x8x128) (k0_off3 k) S1024x1x128.size (k0_off3_inb k)).toLoadRect vb)

/-- The eight heads side by side. -/
def ctxF (q : Vec F S1024x1024 .bf16) (kb vb : Vec F S1024x8x128 .f32) : Vec F S1024x1024 .bf16 := fun i =>
  headOut q kb vb ⟨(i 1).val / 128, by rw [trips8]; have h : (i 1).val < 1024 := (i 1).isLt; omega⟩
    (ix2 (i 0) ⟨(i 1).val % 128, Nat.mod_lt _ (by decide)⟩)

/-- What hop `h` of device `c` adds, and the sum before hop `h`. -/
def ctxV (c : Dev nD) (h : ℕ) : Vec F S1024x1024 .bf16 := ctxF (qsV B c (back c h)) (kV B c (f8 h)) (vV B c (f8 h))
def acc (c : Dev nD) : ℕ → Vec F S1x1024x1024 .f32
  | 0 => k0_pay10
  | h + 1 => k0_pay15 (acc c h) (ctxV B c h) (woV B (back c h))

/-! ## The communication buffer's elements -/

theorem slot_set (i : Fin 2) : (slotM i).view.set
    = (Rect.unit (s := S2x2x1024x1024) ![i.val, 0, 0, 0] S1x2x1024x1024.size (slot_inb i)).set :=
  (View.set_reshape _ _).trans (View.set_slice_whole cc0_scratch0 _)

theorem mem_slot (i : Fin 2) (x : S2x2x1024x1024.Idx) : Iff (x ∈ (slotM i).view.set) ((x 0).val = i.val) := by
  rw [slot_set, Rect.mem_set_unit]
  constructor
  · intro h
    have h0 := h 0
    change i.val ≤ (x 0).val ∧ (x 0).val < i.val + 1 at h0
    omega
  · intro h a
    match a with
    | ⟨0, _⟩ => exact ⟨le_of_eq h.symm, by change (x 0).val < i.val + 1; omega⟩
    | ⟨1, _⟩ => exact ⟨Nat.zero_le _, by change (x 1).val < 0 + 2; have := (x 1).isLt; change (x 1).val < 2 at this; omega⟩
    | ⟨2, _⟩ => exact ⟨Nat.zero_le _, by change (x 2).val < 0 + 1024; have := (x 2).isLt; change (x 2).val < 1024 at this; omega⟩
    | ⟨3, _⟩ => exact ⟨Nat.zero_le _, by change (x 3).val < 0 + 1024; have := (x 3).isLt; change (x 3).val < 1024 at this; omega⟩

/-- The two slots are the whole buffer. -/
theorem slot_compl : (Finset.univ \ (slotM 0).view.set : Finset S2x2x1024x1024.Idx) = (slotM 1).view.set := by
  ext x
  have hx : (x 0).val < 2 := (x 0).isLt
  have h0 := mem_slot 0 x
  have h1 := mem_slot 1 x
  change Iff _ ((x 0).val = 0) at h0
  change Iff _ ((x 0).val = 1) at h1
  rw [Finset.mem_sdiff, h0, h1]
  constructor
  · rintro ⟨_, h⟩; omega
  · intro h; exact ⟨Finset.mem_univ _, by omega⟩

theorem row_sub (i p : Fin 2) : commM.view.setOn (rowR i p).toLoadRect.set ⊆ (slotM i).view.set := by
  intro x hx
  rw [mem_slot]
  obtain ⟨y, hy, rfl⟩ := Finset.mem_map.mp hx
  have h := (Rect.mem_set_unit (inb := row_inb i p)).mp hy 0
  change i.val ≤ (y 0).val ∧ (y 0).val < i.val + 1 at h
  change (y 0).val = i.val
  omega

theorem wbuf_congr (j : Dev nD) (x y : S2x2x1024x1024.Idx) (h1 : (x 1).val = (y 1).val) (h2 : (x 2).val = (y 2).val) (h3 : (x 3).val = (y 3).val) :
    wbuf B j x = wbuf B j y := by
  have e2 : x 2 = y 2 := Fin.ext h2
  have e3 : x 3 = y 3 := Fin.ext h3
  unfold wbuf; rw [h1, e2, e3]

theorem ld_row0 (i : Fin 2) (j : Dev nD) : commM.view.readAt (Elt F) (rowR i 0).toLoadRect (wbuf B j) = k0_pay4 (B.wq j) := by
  funext x
  have hx1 : (x 1).val < 1 := (x 1).isLt
  show wbuf B j ((rowR i 0).idx x) = _
  unfold wbuf
  rw [if_pos (by change 0 + 1 * (x 1).val = 0; omega)]
  congr 1
  funext a
  match a with
  | ⟨0, _⟩ => exact Subsingleton.elim (α := Fin 1) _ _
  | ⟨1, _⟩ => exact Subsingleton.elim (α := Fin 1) _ _
  | ⟨2, _⟩ => exact Fin.ext (by change 0 + 1 * (x 2).val = (x 2).val; omega)
  | ⟨3, _⟩ => exact Fin.ext (by change 0 + 1 * (x 3).val = (x 3).val; omega)
theorem ld_row1 (i : Fin 2) (j : Dev nD) : commM.view.readAt (Elt F) (rowR i 1).toLoadRect (wbuf B j) = k0_pay5 (B.wo j) := by
  funext x
  have hx1 : (x 1).val < 1 := (x 1).isLt
  show wbuf B j ((rowR i 1).idx x) = _
  unfold wbuf
  rw [if_neg (by change ¬ (1 + 1 * (x 1).val = 0); omega)]
  congr 1
  funext a
  match a with
  | ⟨0, _⟩ => exact Subsingleton.elim (α := Fin 1) _ _
  | ⟨1, _⟩ => exact Subsingleton.elim (α := Fin 1) _ _
  | ⟨2, _⟩ => exact Fin.ext (by change 0 + 1 * (x 2).val = (x 2).val; omega)
  | ⟨3, _⟩ => exact Fin.ext (by change 0 + 1 * (x 3).val = (x 3).val; omega)

/-- The two stores of the own weights leave slot 0 holding them. -/
theorem st_rows (c : Dev nD) (f : Vec F S2x2x1024x1024 .bf16) (x : S2x2x1024x1024.Idx) (hx : (x 0).val = 0) :
    (commM.access (rowR 0 1) : View sig .tc _ _ _).write (Elt F)
      ((commM.access (rowR 0 0) : View sig .tc _ _ _).write (Elt F) f (k0_pay4 (B.wq c)) Finset.univ) (k0_pay5 (B.wo c)) Finset.univ x = wbuf B c x := by
  have hx1 : (x 1).val < 2 := (x 1).isLt
  have hidx (p : Fin 2) (hp : (x 1).val = p.val) :
      x = (commM.access (rowR 0 p) : View sig .tc _ _ _).emb (ix4 (0 : Fin 1) (0 : Fin 1) (x 2) (x 3)) := by
    funext a
    match a with
    | ⟨0, _⟩ => exact Fin.ext (by change (x 0).val = 0 + 1 * 0; omega)
    | ⟨1, _⟩ => exact Fin.ext (by change (x 1).val = p.val + 1 * 0; omega)
    | ⟨2, _⟩ => exact Fin.ext (by change (x 2).val = 0 + 1 * (x 2).val; omega)
    | ⟨3, _⟩ => exact Fin.ext (by change (x 3).val = 0 + 1 * (x 3).val; omega)
  by_cases h : (x 1).val = 0
  · rw [View.write_of_not_mem]
    · conv_lhs => rw [hidx 0 h]
      rw [View.write_emb_of_mem _ _ (Finset.mem_univ _)]
      unfold wbuf; rw [if_pos h]; rfl
    · intro hm
      obtain ⟨y, -, hy⟩ := Finset.mem_map.mp hm
      have := congrArg (fun z : S2x2x1024x1024.Idx => (z 1).val) hy
      change 1 + 1 * (y 1).val = (x 1).val at this
      omega
  · have h1 : (x 1).val = 1 := by omega
    conv_lhs => rw [hidx 1 h1]
    rw [View.write_emb_of_mem _ _ (Finset.mem_univ _)]
    unfold wbuf; rw [if_neg h]; rfl

/-- A pair of weights copied from one slot to the other. -/
theorem copy_slot (i i' : Fin 2) (j : Dev nD) (f : Vec F S2x2x1024x1024 .bf16) (x : S2x2x1024x1024.Idx) (hx : x ∈ (slotM i').view.set) :
    (slotM i').view.write (Elt F) f ((slotM i).view.read (Elt F) (wbuf B j)) Finset.univ x = wbuf B j x := by
  obtain ⟨y, -, rfl⟩ := Finset.mem_map.mp hx
  have key : ∀ z : S1x2x1024x1024.Idx,
      wbuf B j ((Rect.unit (s := S2x2x1024x1024) ![i.val, 0, 0, 0] S1x2x1024x1024.size (slot_inb i)).emb z)
        = wbuf B j ((Rect.unit (s := S2x2x1024x1024) ![i'.val, 0, 0, 0] S1x2x1024x1024.size (slot_inb i')).emb z) :=
    fun z => wbuf_congr B j _ _ rfl rfl rfl
  rw [View.write_emb_of_mem _ _ (Finset.mem_univ _), View.read_apply, cast_cast, cast_eq]
  exact key (Shape.reshapeEquiv squeezes_S1x2x1024x1024_S2x1024x1024.numel_eq y)

end Cert.KernelIdeal.Run
end
-- ==== Proof.Steps.lean ====
module

public import proofs.«01_k».proof.Proof.Local

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig ℕ (Elt F) ℕ UU ℕ

variable (B : Vals F)

/-! ## Reads of whole buffers -/

theorem rd_xb (f : Vec F S1024x1024 .bf16) : xbM.view.readAt (Elt F) rMM.toLoadRect f = f :=
  Memref.readAt_unit_zero (Elt F) cc0_scratch2 hz2 _ f

theorem rd_priv (f : Vec F S1024x1024 .bf16) : privM.view.readAt (Elt F) rMM.toLoadRect f = f :=
  Memref.readAt_unit_zero (Elt F) cc0_scratch1 hz2 _ f

theorem rd_ctx (f : Vec F S1024x1024 .bf16) : ctxM.view.readAt (Elt F) rMM.toLoadRect f = f :=
  Memref.readAt_unit_zero (Elt F) cc0_scratch6 hz2 _ f

theorem rd_bias (f : Vec F S1024x1024 .f32) : biasM.view.readAt (Elt F) rMM.toLoadRect f = f :=
  Memref.readAt_unit_zero (Elt F) cc0_scratch7 hz2 _ f

theorem rd_out (f : Vec F S1x1024x1024 .f32) : outM.view.readAt (Elt F) r1MM.toLoadRect f = f :=
  Memref.readAt_unit_zero (Elt F) cc0_stg3_0 hz3 _ f

theorem wr_xb (f w : Vec F S1024x1024 .bf16) : (xbM.access rMM : View sig .tc _ _ _).write (Elt F) f w Finset.univ = w :=
  Memref.write_access_unit_zero_univ (Elt F) cc0_scratch2 hz2 _ f w

theorem wr_priv (f w : Vec F S1024x1024 .bf16) : (privM.access rMM : View sig .tc _ _ _).write (Elt F) f w Finset.univ = w :=
  Memref.write_access_unit_zero_univ (Elt F) cc0_scratch1 hz2 _ f w

theorem wr_qs (f w : Vec F S1024x1024 .bf16) : (qsM.access rMM : View sig .tc _ _ _).write (Elt F) f w Finset.univ = w :=
  Memref.write_access_unit_zero_univ (Elt F) cc0_scratch5 hz2 _ f w

theorem wr_bias (f w : Vec F S1024x1024 .f32) : (biasM.access rMM : View sig .tc _ _ _).write (Elt F) f w Finset.univ = w :=
  Memref.write_access_unit_zero_univ (Elt F) cc0_scratch7 hz2 _ f w

theorem wr_out (f w : Vec F S1x1024x1024 .f32) : (outM.access r1MM : View sig .tc _ _ _).write (Elt F) f w Finset.univ = w :=
  Memref.write_access_unit_zero_univ (Elt F) cc0_stg3_0 hz3 _ f w

theorem rd_wq (f : Vec F S1024x1024 .f32) : wqM.view.readAt (Elt F) rMM.toLoadRect f = f :=
  Memref.readAt_unit_zero (Elt F) cc0_stg1_0 hz2 _ f

theorem rd_wo (f : Vec F S1024x1024 .f32) : woM.view.readAt (Elt F) rMM.toLoadRect f = f :=
  Memref.readAt_unit_zero (Elt F) cc0_stg2_0 hz2 _ f

theorem rd_x (f : Vec F S1x1024x1024 .f32) : xM.view.readAt (Elt F) r1MM.toLoadRect f = f :=
  Memref.readAt_unit_zero (Elt F) cc0_stg0_0 hz3 _ f

instance EC_landsIn : (EC (F := F)).LandsIn upEmb := by unfold EC; infer_instance

/-! ## The local steps -/

theorem wp_init (c : Dev nD) :
    iprop(pW c cc0_stg0_0 (B.x c) ∗ pW c cc0_stg1_0 (B.wq c) ∗ pW c cc0_stg2_0 (B.wo c)
      ∗ (∃ f, pW (F := F) c cc0_scratch0 f) ∗ (∃ f, pW (F := F) c cc0_scratch2 f) ∗ (∃ f, pW (F := F) c cc0_scratch7 f))
    ⊢ WP c segInit (fun _ => iprop(pW c cc0_stg0_0 (B.x c) ∗ pW c cc0_stg1_0 (B.wq c) ∗ pW c cc0_stg2_0 (B.wo c)
      ∗ slotPts B c 0 fullShare c ∗ slotAny c 1 ∗ pW c cc0_scratch2 (xbV B c) ∗ pW c cc0_scratch7 (biasV (F := F)))) := by
  unfold segInit
  simp only [Prog.lift, Prog.bind_op, Prog.bind_ret, Prog.pure_eq_ret]
  iintro ⟨Hx, Hq, Ho, ⟨%f0, Hc⟩, ⟨%f2, Hxb⟩, ⟨%f7, Hb⟩⟩
  iapply (wp_load 𝒱₀ (c : Thread nD τ) none Set.univ (m := wqM) (Finset.subset_univ _)) $$ Hq; iintro Hq
  rw [rd_wq]
  iapply (wp_load 𝒱₀ (c : Thread nD τ) none Set.univ (m := commM) (Finset.subset_univ _)) $$ Hc; iintro Hc
  iapply (wp_store 𝒱₀ (c : Thread nD τ) none Set.univ (m := commM) (r := rowR 0 0) (Mk := Finset.univ) (Finset.subset_univ _)) $$ Hc; iintro Hc
  iapply (wp_load 𝒱₀ (c : Thread nD τ) none Set.univ (m := woM) (Finset.subset_univ _)) $$ Ho; iintro Ho
  rw [rd_wo]
  iapply (wp_load 𝒱₀ (c : Thread nD τ) none Set.univ (m := commM) (Finset.subset_univ _)) $$ Hc; iintro Hc
  iapply (wp_store 𝒱₀ (c : Thread nD τ) none Set.univ (m := commM) (r := rowR 0 1) (Mk := Finset.univ) (Finset.subset_univ _)) $$ Hc; iintro Hc
  iapply (wp_load 𝒱₀ (c : Thread nD τ) none Set.univ (m := xM) (Finset.subset_univ _)) $$ Hx; iintro Hx
  rw [rd_x]
  iapply (wp_load 𝒱₀ (c : Thread nD τ) none Set.univ (m := xbM) (Finset.subset_univ _)) $$ Hxb; iintro Hxb
  iapply (wp_store 𝒱₀ (c : Thread nD τ) none Set.univ (m := xbM) (r := rMM) (Mk := Finset.univ) (Finset.subset_univ _)) $$ Hxb; iintro Hxb
  rw [wr_xb]
  iapply (wp_load 𝒱₀ (c : Thread nD τ) none Set.univ (m := biasM) (Finset.subset_univ _)) $$ Hb; iintro Hb
  iapply (wp_store 𝒱₀ (c : Thread nD τ) none Set.univ (m := biasM) (r := rMM) (Mk := Finset.univ) (Finset.subset_univ _)) $$ Hb; iintro Hb
  rw [wr_bias, wp_ret]
  imodintro
  isplitl [Hx]; · iexact Hx
  isplitl [Hq]; · iexact Hq
  isplitl [Ho]; · iexact Ho
  ihave Hc := (pointsTo_split_subset (Finset.subset_univ (slotM 0).view.set)).1 $$ Hc
  icases Hc with ⟨H0, H1⟩
  isplitl [H0]
  · unfold slotPts
    iapply (Entails.of_eq (pointsTo_congr fun i hi => st_rows B c f0 i ((mem_slot 0 i).mp hi)))
    iexact H0
  isplitl [H1]
  · unfold slotAny Release.slot
    iexists _
    rw [← slot_compl]
    iexact H1
  isplitl [Hxb]; · iexact Hxb
  iexact Hb

/-- The accumulator's start. -/
theorem wp_zero (c : Dev nD) :
    (iprop(∃ f, pW (F := F) c cc0_stg3_0 f) : sProp 𝕄) ⊢ WP c segZero (fun _ => pW c cc0_stg3_0 (acc B c 0)) := by
  unfold segZero
  simp only [Prog.lift, Prog.bind_op, Prog.bind_ret, Prog.pure_eq_ret]
  iintro ⟨%f, H⟩
  iapply (wp_load 𝒱₀ (c : Thread nD τ) none Set.univ (m := outM) (Finset.subset_univ _)) $$ H; iintro H
  iapply (wp_store 𝒱₀ (c : Thread nD τ) none Set.univ (m := outM) (r := r1MM) (Mk := Finset.univ) (Finset.subset_univ _)) $$ H; iintro H
  rw [wr_out, wp_ret]
  imodintro
  iexact H

theorem wp_query (c j : Dev nD) (i : Fin 2) (q : PosShare TreeShare) :
    iprop(slotPts B c i q j ∗ pW c cc0_scratch2 (xbV B c) ∗ (∃ f, pW (F := F) c cc0_scratch1 f) ∗ (∃ f, pW (F := F) c cc0_scratch5 f))
    ⊢ WP c (segQuery i) (fun _ => iprop(slotPts B c i q j ∗ pW c cc0_scratch2 (xbV B c) ∗ pW c cc0_scratch1 (woV B j)
      ∗ pW c cc0_scratch5 (qsV B c j))) := by
  unfold segQuery slotPts
  simp only [Prog.lift, Prog.bind_op, Prog.bind_ret, Prog.pure_eq_ret]
  iintro ⟨Hs, Hxb, ⟨%f1, Hp⟩, ⟨%f5, Hqs⟩⟩
  iapply (wp_load 𝒱₀ (c : Thread nD τ) none Set.univ (m := commM) (row_sub i 0)) $$ Hs; iintro Hs
  rw [ld_row0]
  iapply (wp_load 𝒱₀ (c : Thread nD τ) none Set.univ (m := privM) (Finset.subset_univ _)) $$ Hp; iintro Hp
  iapply (wp_store 𝒱₀ (c : Thread nD τ) none Set.univ (m := privM) (r := rMM) (Mk := Finset.univ) (Finset.subset_univ _)) $$ Hp; iintro Hp
  rw [wr_priv]
  iapply (wp_load 𝒱₀ (c : Thread nD τ) none Set.univ (m := xbM) (Finset.subset_univ _)) $$ Hxb; iintro Hxb
  rw [rd_xb]
  iapply (wp_load 𝒱₀ (c : Thread nD τ) none Set.univ (m := privM) (Finset.subset_univ _)) $$ Hp; iintro Hp
  rw [rd_priv]
  iapply (wp_load 𝒱₀ (c : Thread nD τ) none Set.univ (m := qsM) (Finset.subset_univ _)) $$ Hqs; iintro Hqs
  iapply (wp_store 𝒱₀ (c : Thread nD τ) none Set.univ (m := qsM) (r := rMM) (Mk := Finset.univ) (Finset.subset_univ _)) $$ Hqs; iintro Hqs
  rw [wr_qs]
  iapply (wp_load 𝒱₀ (c : Thread nD τ) none Set.univ (m := commM) (row_sub i 1)) $$ Hs; iintro Hs
  rw [ld_row1]
  iapply (wp_load 𝒱₀ (c : Thread nD τ) none Set.univ (m := privM) (Finset.subset_univ _)) $$ Hp; iintro Hp
  iapply (wp_store 𝒱₀ (c : Thread nD τ) none Set.univ (m := privM) (r := rMM) (Mk := Finset.univ) (Finset.subset_univ _)) $$ Hp; iintro Hp
  rw [wr_priv, wp_ret]
  imodintro
  isplitl [Hs]; · iexact Hs
  isplitl [Hxb]; · iexact Hxb
  isplitl [Hp]; · iexact Hp
  iexact Hqs

/-- After `k` heads the first `128 k` columns hold their results. -/
def headsInv (c : Dev nD) (q : Vec F S1024x1024 .bf16) (kb vb : Vec F S1024x8x128 .f32) (k : ℕ) (_ : Unit) : sProp 𝕄 :=
  iprop(pW c cc0_scratch5 q ∗ pW c cc0_scratch3 kb ∗ pW c cc0_scratch4 vb ∗ pW c cc0_scratch7 (biasV (F := F))
    ∗ ∃ f : Vec F S1024x1024 .bf16, ⌜∀ i : S1024x1024.Idx, (i 1).val < 128 * k → f i = ctxF q kb vb i⌝ ∗ pW c cc0_scratch6 f)

theorem head_write (q : Vec F S1024x1024 .bf16) (kb vb : Vec F S1024x8x128 .f32) (k : Fin k0_t1_loop.trips) (f : Vec F S1024x1024 .bf16)
    (hf : ∀ i : S1024x1024.Idx, (i 1).val < 128 * k.val → f i = ctxF q kb vb i) (i : S1024x1024.Idx) (hi : (i 1).val < 128 * (k.val + 1)) :
    (ctxM.access (Rect.unit (s := S1024x1024) (k0_off2 k) S1024x128.size (k0_off2_inb k)) : View sig .tc _ _ _).write (Elt F) f
      (headOut q kb vb k) Finset.univ i = ctxF q kb vb i := by
  have hk : k0_off2 k = ![0, 128 * k.val] := k0_off2_eq k
  have hk0 : k0_off2 k 0 = 0 := by rw [hk]; rfl
  have hk1 : k0_off2 k 1 = 128 * k.val := by rw [hk]; rfl
  by_cases h : (i 1).val < 128 * k.val
  · rw [View.write_of_not_mem, hf i h]
    intro hm
    obtain ⟨y, -, hy⟩ := Finset.mem_map.mp hm
    have := congrArg (fun z : S1024x1024.Idx => (z 1).val) hy
    change k0_off2 k 1 + 1 * (y 1).val = (i 1).val at this
    omega
  · have e : i = (ctxM.access (Rect.unit (s := S1024x1024) (k0_off2 k) S1024x128.size (k0_off2_inb k)) : View sig .tc _ _ _).emb
        (ix2 (i 0) (⟨(i 1).val % 128, Nat.mod_lt _ (by decide)⟩ : Fin 128)) := by
      funext a
      match a with
      | ⟨0, _⟩ => exact Fin.ext (by change (i 0).val = k0_off2 k 0 + 1 * (i 0).val; omega)
      | ⟨1, _⟩ => exact Fin.ext (by change (i 1).val = k0_off2 k 1 + 1 * ((i 1).val % 128); omega)
    conv_lhs => rw [e]
    rw [View.write_emb_of_mem _ _ (Finset.mem_univ _)]
    have hd : (⟨(i 1).val / 128, by rw [trips8]; have h : (i 1).val < 1024 := (i 1).isLt; omega⟩ : Fin k0_t1_loop.trips) = k :=
      Fin.ext (by show (i 1).val / 128 = k.val; omega)
    unfold ctxF
    rw [hd]
    rfl

theorem wp_heads (c : Dev nD) (q : Vec F S1024x1024 .bf16) (kb vb : Vec F S1024x8x128 .f32) :
    iprop(pW c cc0_scratch5 q ∗ pW c cc0_scratch3 kb ∗ pW c cc0_scratch4 vb ∗ pW c cc0_scratch7 (biasV (F := F)) ∗ (∃ f, pW (F := F) c cc0_scratch6 f))
    ⊢ WP c segHeads (fun _ => iprop(pW c cc0_scratch5 q ∗ pW c cc0_scratch3 kb ∗ pW c cc0_scratch4 vb ∗ pW c cc0_scratch7 (biasV (F := F))
      ∗ pW c cc0_scratch6 (ctxF q kb vb))) := by
  unfold segHeads
  iintro ⟨Hq, Hk, Hv, Hb, ⟨%f, Hc⟩⟩
  iapply (Scf.wp_for _ _ _ _ _ _ _ _ _ (headsInv c q kb vb) ?_)
  case _ =>
    intro k a
    unfold headsInv headBody
    simp only [Prog.lift, Prog.bind_op, Prog.bind_ret, Prog.pure_eq_ret]
    iintro ⟨Hq, Hk, Hv, Hb, ⟨%f, %hf, Hc⟩⟩
    iapply (wp_load 𝒱₀ (c : Thread nD τ) none Set.univ (m := qsM) (Finset.subset_univ _)) $$ Hq; iintro Hq
    iapply (wp_load 𝒱₀ (c : Thread nD τ) none Set.univ (m := kblkM) (Finset.subset_univ _)) $$ Hk; iintro Hk
    iapply (wp_load 𝒱₀ (c : Thread nD τ) none Set.univ (m := biasM) (Finset.subset_univ _)) $$ Hb; iintro Hb
    rw [rd_bias]
    iapply (wp_load 𝒱₀ (c : Thread nD τ) none Set.univ (m := vblkM) (Finset.subset_univ _)) $$ Hv; iintro Hv
    iapply (wp_load 𝒱₀ (c : Thread nD τ) none Set.univ (m := ctxM) (Finset.subset_univ _)) $$ Hc; iintro Hc
    iapply (wp_store 𝒱₀ (c : Thread nD τ) none Set.univ (m := ctxM)
      (r := Rect.unit (s := S1024x1024) (k0_off2 k) S1024x128.size (k0_off2_inb k)) (Mk := Finset.univ) (Finset.subset_univ _)) $$ Hc; iintro Hc
    rw [wp_ret]
    imodintro
    isplitl [Hq]; · iexact Hq
    isplitl [Hk]; · iexact Hk
    isplitl [Hv]; · iexact Hv
    isplitl [Hb]; · iexact Hb
    iexists _
    isplitr
    · ipureintro; exact fun i hi => head_write q kb vb k f hf i hi
    · iexact Hc
  isplitl [Hq Hk Hv Hb Hc]
  · unfold headsInv
    isplitl [Hq]; · iexact Hq
    isplitl [Hk]; · iexact Hk
    isplitl [Hv]; · iexact Hv
    isplitl [Hb]; · iexact Hb
    iexists f
    isplitr
    · ipureintro; intro i hi; exact absurd hi (by omega)
    · iexact Hc
  · iintro %a H
    unfold headsInv
    icases H with ⟨Hq, Hk, Hv, Hb, ⟨%g, %hg, Hc⟩⟩
    isplitl [Hq]; · iexact Hq
    isplitl [Hk]; · iexact Hk
    isplitl [Hv]; · iexact Hv
    isplitl [Hb]; · iexact Hb
    have e : g = ctxF q kb vb := funext fun i => hg i (by
      have h : (i 1).val < 1024 := (i 1).isLt
      have h8 := trips8
      unfold Scf.Loop.trips at h8
      rw [h8]; omega)
    rw [← e]
    iexact Hc

theorem wp_acc (c : Dev nD) (a : Vec F S1x1024x1024 .f32) (x w : Vec F S1024x1024 .bf16) :
    iprop(pW c cc0_stg3_0 a ∗ pW c cc0_scratch6 x ∗ pW c cc0_scratch1 w)
    ⊢ WP c segAcc (fun _ => iprop(pW c cc0_stg3_0 (k0_pay15 a x w) ∗ pW c cc0_scratch6 x ∗ pW c cc0_scratch1 w)) := by
  unfold segAcc
  simp only [Prog.lift, Prog.bind_op, Prog.bind_ret, Prog.pure_eq_ret]
  iintro ⟨Ha, Hx, Hw⟩
  iapply (wp_load 𝒱₀ (c : Thread nD τ) none Set.univ (m := outM) (Finset.subset_univ _)) $$ Ha; iintro Ha
  iapply (wp_load 𝒱₀ (c : Thread nD τ) none Set.univ (m := ctxM) (Finset.subset_univ _)) $$ Hx; iintro Hx
  iapply (wp_load 𝒱₀ (c : Thread nD τ) none Set.univ (m := privM) (Finset.subset_univ _)) $$ Hw; iintro Hw
  rw [rd_out, rd_ctx, rd_priv]
  iapply (wp_load 𝒱₀ (c : Thread nD τ) none Set.univ (m := outM) (Finset.subset_univ _)) $$ Ha; iintro Ha
  iapply (wp_store 𝒱₀ (c : Thread nD τ) none Set.univ (m := outM) (r := r1MM) (Mk := Finset.univ) (Finset.subset_univ _)) $$ Ha; iintro Ha
  rw [wr_out, wp_ret]
  imodintro
  isplitl [Ha]; · iexact Ha
  isplitl [Hx]; · iexact Hx
  iexact Hw

/-! ## The fetch of keys and values -/

/-- One of the two copies in flight: when it ends, the block buffer `b` holds `w` and the source's part is whole again. -/
def inflight (c : Dev nD) (i : Fin 2) (Nn : ℕ) (D : sProp 𝕄) : sProp 𝕄 :=
  Transfers.Flight EC (c : Thread nD τ) (.dma (kvS i)) 0 Nn D

abbrev Nk : ℕ := (kblkM : Memref sig .tc .vmem S1024x8x128 .f32).view.dmaCredit
abbrev Nv : ℕ := (vblkM : Memref sig .tc .vmem S1024x8x128 .f32).view.dmaCredit

/-- The keys' and the values' block of hop `h` on their way. -/
def fetching (c : Dev nD) (h : Fin 8) : sProp 𝕄 :=
  iprop(inflight c 0 Nk iprop(pW c cc0_scratch3 (kV B c h)
        ∗ (kvSl kM c h).view.loc (c : Thread nD τ) ↦[(kvSl kM c h).view.set]{fullShare} B.kk c)
    ∗ ((c : Thread nD τ).loc main_arg2 ↦[Finset.univ \ (kvSl kM c h).view.set]{fullShare} B.kk c)
    ∗ inflight c 1 Nv iprop(pW c cc0_scratch4 (vV B c h)
        ∗ (kvSl vM c h).view.loc (c : Thread nD τ) ↦[(kvSl vM c h).view.set]{fullShare} B.vv c)
    ∗ ((c : Thread nD τ).loc main_arg3 ↦[Finset.univ \ (kvSl vM c h).view.set]{fullShare} B.vv c))

/-- Nothing on its way: the arrays whole, the block buffers free. -/
def fetchIdle (c : Dev nD) : sProp 𝕄 :=
  iprop(pW c main_arg2 (B.kk c) ∗ pW c main_arg3 (B.vv c)
    ∗ semVal ((c : Thread nD τ), SemLoc.dma (kvS 0)) 0 ∗ semVal ((c : Thread nD τ), SemLoc.dma (kvS 1)) 0)

theorem wp_fetch (c : Dev nD) (h : Fin 8) :
    iprop(fetchIdle B c ∗ (∃ f, pW (F := F) c cc0_scratch3 f) ∗ (∃ f, pW (F := F) c cc0_scratch4 f))
    ⊢ WP c (segFetch c h) (fun _ => fetching B c h) := by
  unfold segFetch fetchIdle fetching inflight
  simp only [Prog.lift, Prog.bind_op, Prog.bind_ret, Prog.pure_eq_ret]
  iintro ⟨⟨HK, HV, Hs0, Hs1⟩, ⟨%f3, H3⟩, ⟨%f4, H4⟩⟩
  ihave HK := (pointsTo_split_subset (Finset.subset_univ (kvSl kM c h).view.set)).1 $$ HK
  icases HK with ⟨HK, HK'⟩
  ihave HV := (pointsTo_split_subset (Finset.subset_univ (kvSl vM c h).view.set)).1 $$ HV
  icases HV with ⟨HV, HV'⟩
  iapply (Transfers.wp_dmaLocal EC 𝒱₀ (c : Thread nD τ) none (src := kvSl kM c h) (dst := kblkM) (sm := .dma (kvS 0))
    0 Nk rfl (View.dmaCredit_pos _ (by decide)) (Finset.subset_univ _)) $$ [HK H3 Hs0]
  · isplitl [HK]; · iexact HK
    isplitl [H3]; · iexact H3
    iexact Hs0
  iintro HF0
  iapply (Transfers.wp_dmaLocal EC 𝒱₀ (c : Thread nD τ) none (src := kvSl vM c h) (dst := vblkM) (sm := .dma (kvS 1))
    0 Nv rfl (View.dmaCredit_pos _ (by decide)) (Finset.subset_univ _)) $$ [HV H4 Hs1]
  · isplitl [HV]; · iexact HV
    isplitl [H4]; · iexact H4
    iexact Hs1
  iintro HF1
  rw [wp_ret]
  imodintro
  isplitl [HF0]
  · rw [show kblkM.view.write (Elt F) f3 (ReadAs.same.apply ((kvSl kM c h).view.read (Elt F) (B.kk c))) Finset.univ = kV B c h from
      View.write_whole_univ _ _ _]
    iexact HF0
  isplitl [HK']; · iexact HK'
  isplitl [HF1]
  · rw [show vblkM.view.write (Elt F) f4 (ReadAs.same.apply ((kvSl vM c h).view.read (Elt F) (B.vv c))) Finset.univ = vV B c h from
      View.write_whole_univ _ _ _]
    iexact HF1
  iexact HV'

theorem wp_kv (c : Dev nD) (h : Fin 8) (O : CellTallies nD τ sig ℕ) (W : Waits sig ℕ)
    (hO : ∀ (g : GSem nD τ sig) (u : ℕ), 0 < O g u → 0 < lv g u ∧ u ∈ L g) :
    iprop(levAts L lv ∗ fetching B c h ∗ owes (c : Thread nD τ) O W)
    ⊢ WP c (segKv c h) (fun _ => iprop(fetchIdle B c ∗ pW c cc0_scratch3 (kV B c h) ∗ pW c cc0_scratch4 (vV B c h)
        ∗ ∃ W', owes (c : Thread nD τ) O W')) := by
  unfold segKv fetchIdle fetching inflight
  simp only [Prog.lift, Prog.bind_op, Prog.bind_ret, Prog.pure_eq_ret]
  iintro ⟨#HL, ⟨HF0, HK', HF1, HV'⟩, HO⟩
  iapply (Transfers.wp_waitLocalO EC 𝒱₀ (c : Thread nD τ) none (sem := kvS 0) (srcw := kvSl kM c h) (dstw := kblkM) 0 rfl) $$ [HF0 HO]
  · isplitl [HF0]; · iexact HF0
    isplitl [HO]; · iexact HO
    iapply (mayWait_of c (.dma (kvS 0)) 0 0 (by decide) (le_of_eq (lv_low c (kvS 0) (Or.inr (by decide)) 0)) O hO); iexact HL
  iintro ⟨⟨H3, HK⟩, Hs0, HO⟩
  iapply (Transfers.wp_waitLocalO EC 𝒱₀ (c : Thread nD τ) none (sem := kvS 1) (srcw := kvSl vM c h) (dstw := vblkM) 0 rfl) $$ [HF1 HO]
  · isplitl [HF1]; · iexact HF1
    isplitl [HO]; · iexact HO
    iapply (mayWait_of c (.dma (kvS 1)) 0 0 (by decide) (le_of_eq (lv_low c (kvS 1) (Or.inr (by decide)) 0)) O hO); iexact HL
  iintro ⟨⟨H4, HV⟩, Hs1, HO⟩
  rw [wp_ret]
  imodintro
  isplitl [HK HK' HV HV' Hs0 Hs1]
  · isplitl [HK HK']
    · iapply (pointsTo_split_subset (Finset.subset_univ (kvSl kM c h).view.set)).2
      isplitl [HK]; · iexact HK
      iexact HK'
    isplitl [HV HV']
    · iapply (pointsTo_split_subset (Finset.subset_univ (kvSl vM c h).view.set)).2
      isplitl [HV]; · iexact HV
      iexact HV'
    isplitl [Hs0]; · iexact Hs0
    iexact Hs1
  isplitl [H3]; · iexact H3
  isplitl [H4]; · iexact H4
  iexists _; iexact HO

end Cert.KernelIdeal.Run
end
-- ==== Proof.Coll.lean ====
module

public import proofs.«01_k».proof.Proof.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig ℕ (Elt F) ℕ UU ℕ

variable (B : Vals F)

/-! ## The cells and slots everyone knows of -/

/-- The sixteen cells of a device that take part in the exchange. -/
def kc (k : Fin 16) : SemLoc sig :=
  if k.val = 0 then .reg barS else if k.val = 1 then .reg credS
  else if k.val < 9 then .dma (sendS (f8 (k.val - 2))) else .dma (recvS (f8 (k.val - 9)))
def kcell (p : Dev nD × Fin 16) : GSem nD τ sig := ((p.1 : Thread nD τ), kc p.2)
theorem kc_injective : Function.Injective kc := by decide
theorem kcell_injective : Function.Injective kcell := fun p q h => by
  have h1 : (p.1 : Thread nD τ) = (q.1 : Thread nD τ) := congrArg (fun g : GSem nD τ sig => g.1) h
  have h2 : kc p.2 = kc q.2 := congrArg (fun g : GSem nD τ sig => g.2) h
  exact Prod.ext (congrArg (fun t : Thread nD τ => t.1) h1) (kc_injective h2)
def ringCells : Finset (GSem nD τ sig) := Finset.univ.map ⟨kcell, kcell_injective⟩
def slotKeys : Finset (Dev nD × ℕ) := Finset.univ ×ˢ Finset.Icc 1 6

theorem mem_cells (p : Dev nD × Fin 16) : kcell p ∈ ringCells := Finset.mem_map_of_mem _ (Finset.mem_univ p)
theorem mem_bar (c : Dev nD) : barCell c ∈ ringCells := mem_cells (c, 0)
theorem mem_cred (c : Dev nD) : credCell c ∈ ringCells := mem_cells (c, 1)
theorem mem_send (c : Dev nD) (h : Fin 8) (hh : h.val < 7) : sendCell c h ∈ ringCells := by
  have e : kcell (c, ⟨h.val + 2, by omega⟩) = sendCell c h := by
    unfold kcell kc
    rw [if_neg (by simp), if_neg (by simp), if_pos (by show h.val + 2 < 9; omega)]
    have : f8 (h.val + 2 - 2) = h := Fin.ext (by show (h.val + 2 - 2) % 8 = h.val; omega)
    rw [this]
  rw [← e]; exact mem_cells _
theorem mem_recv (c : Dev nD) (h : Fin 8) (hh : h.val < 7) : recvCell c h ∈ ringCells := by
  have e : kcell (c, ⟨h.val + 9, by omega⟩) = recvCell c h := by
    unfold kcell kc
    rw [if_neg (by simp), if_neg (by simp), if_neg (by show ¬ h.val + 9 < 9; omega)]
    have : f8 (h.val + 9 - 9) = h := Fin.ext (by show (h.val + 9 - 9) % 8 = h.val; omega)
    rw [this]
  rw [← e]; exact mem_cells _

omit [FloatOps F] [Named F] in
theorem big_elim {I : Type} [DecidableEq I] (Φ : I → sProp 𝕄) {S : Finset I} {i : I} (h : i ∈ S) : bigSep S Φ ⊢ Φ i := bigSep_elim h
omit [FloatOps F] [Named F] in
theorem big_union {I : Type} [DecidableEq I] (Φ : I → sProp 𝕄) [∀ i, BI.Persistent (Φ i)] (S T : Finset I) :
    iprop(bigSep S Φ ∗ bigSep T Φ) ⊢ bigSep (S ∪ T) Φ := bigSep_sep_union S T

variable (κ : GSem nD τ sig → ℕ) (ν : Dev nD × ℕ → ℕ)

/-- The invariants of the cells and of the slots, the cells' first round, the levels. -/
def Ctx : sProp 𝕄 :=
  iprop(bigSep ringCells (fun g => iprop(cellInv ER (rd B) (κ g) g ∗ reached ER g 0))
    ∗ bigSep slotKeys (fun k => Release.slotInv ES (ν k) k (slotAny k.1 (fin2 (k.2 + 1)))) ∗ levAts L lv)

instance Ctx_persistent : BI.Persistent (Ctx B κ ν) := by unfold Ctx; infer_instance

theorem Ctx_cell {g : GSem nD τ sig} (hg : g ∈ ringCells) : Ctx B κ ν ⊢ iprop(cellInv ER (rd B) (κ g) g ∗ reached ER g 0) := by
  unfold Ctx
  iintro ⟨H, -, -⟩
  iapply (big_elim (F := F) (fun g => iprop(cellInv ER (rd B) (κ g) g ∗ reached ER g 0)) hg)
  iexact H
theorem Ctx_slot (d : Dev nD) (h : ℕ) (hh : 1 ≤ h ∧ h ≤ 6) :
    Ctx B κ ν ⊢ Release.slotInv ES (ν (d, h)) (d, h) (slotAny (F := F) d (fin2 (h + 1))) := by
  have hk : (d, h) ∈ slotKeys := Finset.mem_product.mpr ⟨Finset.mem_univ _, Finset.mem_Icc.mpr hh⟩
  unfold Ctx
  iintro ⟨-, H, -⟩
  iapply (big_elim (F := F) (fun k : Dev nD × ℕ => Release.slotInv ES (ν k) k (slotAny (F := F) k.1 (fin2 (k.2 + 1)))) hk)
  iexact H
theorem Ctx_lev : Ctx B κ ν ⊢ (levAts L lv : sProp 𝕄) := by
  unfold Ctx
  iintro ⟨-, -, H⟩
  iexact H

/-- What the device owes, whatever it has waited on. -/
def Ow (c : Dev nD) (O : CellTallies nD τ sig ℕ) : sProp 𝕄 := iprop(∃ W, owes (c : Thread nD τ) O W)

/-! ## The handshake -/

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)

theorem wp_barrier (c : Dev nD) :
    iprop(Ctx B κ ν ∗ Ow c (o₀ c) ∗ dutyTok ER (barCell (prv c)) 0 0 ∗ dutyTok ER (barCell (nxt c)) 0 1 ∗ slotAny c 1
      ∗ cred (tallyAt (barCell c) 0 2) ∗ atPos ER (barCell c) 0 ∅ 0)
    ⊢ WP (F := F) c (segBarrier c) (fun _ => iprop(Ow c (oAt c 0) ∗ slotAny (nxt c) 1 ∗ semVal (barCell c) 0)) := by
  unfold segBarrier Ow
  simp only [semSignalWord, semWaitWord, Prog.lift, Prog.bind_op, Prog.bind_ret, Prog.pure_eq_ret, dev1_eq, dev2_eq]
  iintro ⟨#HC, ⟨%W, HO⟩, HtP, HtN, Hs, Hc, Hat⟩
  ihave #HP := (Ctx_cell B κ ν (mem_bar (prv c))) $$ HC
  icases HP with ⟨HIP, HrP⟩
  ihave #HN := (Ctx_cell B κ ν (mem_bar (nxt c))) $$ HC
  icases HN with ⟨HIN, HrN⟩
  ihave #HI := (Ctx_cell B κ ν (mem_bar c)) $$ HC
  icases HI with ⟨HI, Hr⟩
  iapply (Rounds.wp_signal 𝒱₀ ER (rd B) (c : Thread nD τ) none (dst := (prv c : Thread nD τ)) (κ := κ (barCell (prv c)))
      (r := 0) (d := 0) (by rw [duties_bar]; decide) ((amount_bar B (prv c) 0).trans (by decide)) 0 (o₁ c) rfl)
    $$ [HO HtP Hs]
  · isplitr; · iexact HIP
    isplitl [HO]; · iexact HO
    isplitl [HtP]; · iexact HtP
    isplitl [Hs]
    · rw [payload_bar_zero, nxt_prv]; iexact Hs
    · iexact HrP
  iintro HO
  iapply (Rounds.wp_signal 𝒱₀ ER (rd B) (c : Thread nD τ) none (dst := (nxt c : Thread nD τ)) (κ := κ (barCell (nxt c)))
      (r := 0) (d := 1) (by rw [duties_bar]; decide) ((amount_bar B (nxt c) 1).trans (by decide)) 0 (oAt c 0) rfl)
    $$ [HO HtN]
  · isplitr; · iexact HIN
    isplitl [HO]; · iexact HO
    isplitl [HtN]; · iexact HtN
    isplitr
    · rw [payload_bar_one]; iempintro
    · iexact HrN
  iintro HO
  iapply (Rounds.wp_wait_rest_token 𝒱₀ ER (rd B) (c : Thread nD τ) none (κ := κ (barCell c))
      (wpE_semWait_eq 𝒱₀ (c : Thread nD τ) none Set.univ) (Set.mem_univ _) 0 (O := oAt c 0) (W := W) (R := 0) (m := 0) (T := ∅)
      (by rw [expect_bar]; decide)) $$ [Hc HO Hat]
  · isplitr; · iexact HI
    isplitl [Hc]; · iexact Hc
    isplitl [HO]; · iexact HO
    isplitr
    · iapply (mayWait_of c (.reg barS) 0 11 (by decide) (by dsimp only [lv]; rw [if_pos barS_val]; decide) (oAt c 0) (fun g u hg => lv_oAt hg))
      iapply (Ctx_lev B κ ν); iexact HC
    · iexact Hat
  iintro ⟨HO, Hat, -, Hpay⟩
  ihave Hp := (Entails.of_eq (rest_bar B c)) $$ Hpay
  icases Hp with ⟨Hs, -⟩
  imod (Rounds.cell_close ER (rd B) (Set.mem_univ (κ (barCell c))) (fun h => h) (R := 0 + 1) (duties_later B (barCell c))) $$ [Hat] with Hz
  · isplitr; · iexact HI
    iexact Hat
  rw [wp_ret]
  imodintro
  isplitl [HO]; · iexists _; iexact HO
  isplitl [Hs]; · iexact Hs
  iexact Hz

/-! ## A send, its arrival and its end -/

theorem oAt_owe (c : Dev nD) (h : Fin 8) (hh : h.val < 7) : oAt c h.val = oAfter c h.val + tallyAt (recvCell (nxt c) h) 0 N := by
  have e : f8 h.val = h := Fin.ext (Nat.mod_eq_of_lt h.isLt)
  rw [oAt_send c hh, owS, e]

theorem slot_credit (i : Fin 2) (h : Fin 8) : (slotM i).view.amount (SemLoc.dma (recvS h)) = N := rfl

theorem pay_back (c : Dev nD) (h : Fin 8) :
    ((slotM (sl h)).view.loc (c : Thread nD τ) ↦[(slotM (sl h)).view.set]{fullShare.right} wbuf B (back c h.val))
      ⊢ (rd B).payload (sendCell c h) 0 0 := by
  rw [payload_send]; exact BI.Entails.refl _

theorem pay_land (c : Dev nD) (h : Fin 8) (fd : Vec F S2x2x1024x1024 .bf16) :
    ((slotM (sl' h)).view.loc (nxt c : Thread nD τ) ↦[(slotM (sl' h)).view.set]{fullShare}
        (slotM (sl' h)).view.write (Elt F) fd ((slotM (sl h)).view.read (Elt F) (wbuf B (back c h.val))) Finset.univ)
      ⊢ (rd B).payload (recvCell (nxt c) h) 0 0 := by
  rw [payload_recv, back_nxt]
  unfold slotPts
  exact Entails.of_eq (pointsTo_congr fun x hx => copy_slot B (sl h) (sl' h) _ fd x hx)

/-- The send rule at the ring's cells. -/
theorem wp_send_ring (c : Dev nD) (h : Fin 8) (hh : h.val < 7) (fd : Vec F S2x2x1024x1024 .bf16) (W : Waits sig ℕ) (Q : PUnit → sProp 𝕄) :
    iprop(cellInv ER (rd B) (κ (sendCell c h)) (sendCell c h) ∗ cellInv ER (rd B) (κ (recvCell (nxt c) h)) (recvCell (nxt c) h)
        ∗ ((slotM (sl h)).view.loc (c : Thread nD τ) ↦[(slotM (sl h)).view.set]{fullShare.right} wbuf B (back c h.val))
        ∗ ((slotM (sl' h)).view.loc (nxt c : Thread nD τ) ↦[(slotM (sl' h)).view.set]{fullShare} fd)
        ∗ owes (c : Thread nD τ) (oAt c h.val) W
        ∗ dutyTok ER (sendCell c h) 0 0 ∗ reached ER (sendCell c h) 0
        ∗ dutyTok ER (recvCell (nxt c) h) 0 0 ∗ reached ER (recvCell (nxt c) h) 0)
    ⊢ iprop(((cred (tallyAt (sendCell c h) 0 N) ∗ owes (c : Thread nD τ) (oAfter c h.val) W)
          -∗ wp frame (wpE (defs₀ (F := F)) 𝒱₀ (c : Thread nD τ) none) Set.univ (.ret ⟨⟩) Q)
        -∗ wp frame (wpE (defs₀ (F := F)) 𝒱₀ (c : Thread nD τ) none) Set.univ (segSend (nxt c) h) Q) := by
  have h1 := pay_back B c h
  have h2 := pay_land B c h fd
  have h3 := slot_credit (sl' h) h
  have d1 : 0 ∈ (rd B).duties (sendCell c h) 0 := (by rw [duties_send B c h hh]; exact Finset.mem_singleton_self _)
  have d2 : 0 ∈ (rd B).duties (recvCell (nxt c) h) 0 := (by rw [duties_recv B (nxt c) h hh]; exact Finset.mem_singleton_self _)
  have R := Rounds.wp_send_pointsTo (k := (fun x => Prog.ret x : PUnit → Prog (TpuEff nD τ sig (Elt F) Λ₀ .tc) PUnit)) (Val := Elt F) (defs := defs₀) (Γ := PendingWaitsCtx.empty) (Q := Q) (Es := Set.univ) 𝒱₀ ER (rd B) (c : Thread nD τ) none (c' := (nxt c : Thread nD τ)) (src := slotM (sl h)) (dst := slotM (sl' h)) (hsc := rfl) (sS := .dma (sendS h)) (sem := .dma (recvS h))
    (hsrc := slot_wordExact (sl h)) (hdst := slot_wordExact (sl' h)) (hsem := ⟨⟨rfl, Or.inl rfl⟩, trivial⟩)
    (κ₁ := κ (sendCell c h)) (κ₂ := κ (recvCell (nxt c) h))
    (r₁ := 0) (r₂ := 0) (d₁ := 0) (d₂ := 0) (fd := fd) (fs := wbuf B (back c h.val)) (q := fullShare.right)
    d1 d2 0 0 N h3 (amount_send B c h 0) (amount_recv B (nxt c) h 0) (oAfter c h.val) (oAt_owe c h hh) (W := W)
    h1 h2
  exact R

theorem wp_send (c n : Dev nD) (hn : n = nxt c) (h : Fin 8) (hh : h.val < 7) :
    iprop(Ctx B κ ν ∗ slotPts B c (sl h) fullShare (back c h.val) ∗ slotAny (nxt c) (sl' h) ∗ Ow c (oAt c h.val)
      ∗ dutyTok ER (sendCell c h) 0 0 ∗ dutyTok ER (recvCell (nxt c) h) 0 0)
    ⊢ WP (F := F) c (segSend n h) (fun _ => iprop(slotPts B c (sl h) fullShare.left (back c h.val)
      ∗ cred (tallyAt (sendCell c h) 0 N) ∗ Ow c (oAfter c h.val))) := by
  subst hn
  unfold Ow slotAny Release.slot
  iintro ⟨#HC, Hs, ⟨%fd, Hd⟩, ⟨%W, HO⟩, HtS, HtR⟩
  ihave #HS := (Ctx_cell B κ ν (mem_send c h hh)) $$ HC
  icases HS with ⟨HIS, HrS⟩
  ihave #HR := (Ctx_cell B κ ν (mem_recv (nxt c) h hh)) $$ HC
  icases HR with ⟨HIR, HrR⟩
  unfold slotPts
  ihave Hs := (pointsTo_share (PosShare.mem_left_op_right fullShare)).1 $$ Hs
  icases Hs with ⟨HsL, HsR⟩
  iapply (wp_send_ring B κ c h hh fd W _) $$ [HsR Hd HO HtS HtR]
  · isplitr; · iexact HIS
    isplitr; · iexact HIR
    isplitl [HsR]; · iexact HsR
    isplitl [Hd]; · iexact Hd
    isplitl [HO]; · iexact HO
    isplitl [HtS]; · iexact HtS
    isplitr; · iexact HrS
    isplitl [HtR]; · iexact HtR
    iexact HrR
  iintro ⟨Hc, HO⟩
  rw [wp_ret]
  imodintro
  isplitl [HsL]; · iexact HsL
  isplitl [Hc]; · iexact Hc
  iexists _; iexact HO

theorem wp_free (c : Dev nD) (h : Fin 8) (hh : h.val < 7) :
    iprop(Ctx B κ ν ∗ slotPts B c (sl h) fullShare.left (back c h.val) ∗ cred (tallyAt (sendCell c h) 0 N) ∗ Ow c (oAfter c h.val)
      ∗ atPos ER (sendCell c h) 0 ∅ 0)
    ⊢ WP (F := F) c (segFree h) (fun _ => iprop(slotPts B c (sl h) fullShare (back c h.val) ∗ Ow c (oAfter c h.val)
      ∗ semVal (sendCell c h) 0)) := by
  unfold segFree Ow
  simp only [Prog.lift]
  iintro ⟨#HC, HsL, Hc, ⟨%W, HO⟩, Hat⟩
  ihave #HS := (Ctx_cell B κ ν (mem_send c h hh)) $$ HC
  icases HS with ⟨HIS, HrS⟩
  have hv := sendS_val h
  iapply (Rounds.wp_wait_rest_token 𝒱₀ ER (rd B) (c : Thread nD τ) none (κ := κ (sendCell c h))
      (wpE_waitDma2_eq 𝒱₀ (c : Thread nD τ) none Set.univ) (Set.mem_univ _) 0 (O := oAfter c h.val) (W := W) (R := 0) (m := 0) (T := ∅)
      (by rw [Nat.zero_add, expect_send B c h hh])) $$ [Hc HO Hat]
  · isplitr; · iexact HIS
    isplitl [Hc]; · iexact Hc
    isplitl [HO]; · iexact HO
    isplitr
    · iapply (mayWait_of c (.dma (sendS h)) 0 0 (by decide) (le_of_eq (lv_low c (sendS h) (Or.inl (by omega)) 0)) _
        (fun g u hg => ⟨by have := (lv_oAfter hg).1; omega, (lv_oAfter hg).2⟩))
      iapply (Ctx_lev B κ ν); iexact HC
    · iexact Hat
  iintro ⟨HO, Hat, -, Hpay⟩
  ihave HsR := (Entails.of_eq (rest_send B c h hh)) $$ Hpay
  imod (Rounds.cell_close ER (rd B) (Set.mem_univ (κ (sendCell c h))) (fun h => h) (R := 0 + 1) (duties_later B (sendCell c h))) $$ [Hat] with Hz
  · isplitr; · iexact HIS
    iexact Hat
  rw [wp_ret]
  imodintro
  isplitl [HsL HsR]
  · unfold slotPts
    iapply (pointsTo_share (PosShare.mem_left_op_right fullShare)).2
    isplitl [HsL]; · iexact HsL
    iexact HsR
  isplitl [HO]; · iexists _; iexact HO
  iexact Hz

theorem wp_arrive (c : Dev nD) (h : Fin 8) (hh : h.val < 7) :
    iprop(Ctx B κ ν ∗ cred (tallyAt (recvCell c h) 0 N) ∗ Ow c (oAt c (h.val + 1)) ∗ atPos ER (recvCell c h) 0 ∅ 0)
    ⊢ WP (F := F) c (segArrive h) (fun _ => iprop(slotPts B c (sl' h) fullShare (back c (h.val + 1)) ∗ Ow c (oAt c (h.val + 1))
      ∗ semVal (recvCell c h) 0)) := by
  unfold segArrive Ow
  simp only [Prog.lift]
  iintro ⟨#HC, Hc, ⟨%W, HO⟩, Hat⟩
  ihave #HS := (Ctx_cell B κ ν (mem_recv c h hh)) $$ HC
  icases HS with ⟨HIS, HrS⟩
  have hv := recvS_val h
  iapply (Rounds.wp_wait_rest_token 𝒱₀ ER (rd B) (c : Thread nD τ) none (κ := κ (recvCell c h))
      (wpE_waitDma2_eq 𝒱₀ (c : Thread nD τ) none Set.univ) (Set.mem_univ _) 0 (O := oAt c (h.val + 1)) (W := W) (R := 0) (m := 0) (T := ∅)
      (by rw [Nat.zero_add, expect_recv B c h hh])) $$ [Hc HO Hat]
  · isplitr; · iexact HIS
    isplitl [Hc]; · iexact Hc
    isplitl [HO]; · iexact HO
    isplitr
    · iapply (mayWait_of c (.dma (recvS h)) 0 (2 * h.val + 12) (by decide)
        (by dsimp only [lv]; rw [if_pos (by omega)]; omega) _ (fun g u hg => ⟨by have := (lv_oAt hg).1; omega, (lv_oAt hg).2⟩))
      iapply (Ctx_lev B κ ν); iexact HC
    · iexact Hat
  iintro ⟨HO, Hat, -, Hpay⟩
  ihave Hs := (Entails.of_eq (rest_recv B c h hh)) $$ Hpay
  imod (Rounds.cell_close ER (rd B) (Set.mem_univ (κ (recvCell c h))) (fun h => h) (R := 0 + 1) (duties_later B (recvCell c h))) $$ [Hat] with Hz
  · isplitr; · iexact HIS
    iexact Hat
  rw [wp_ret]
  imodintro
  isplitl [Hs]; · iexact Hs
  isplitl [HO]; · iexists _; iexact HO
  iexact Hz

/-! ## The credits -/

/-- The device has waited for `m` credits of the six: at least `m` of the six hops' releases at its right neighbour are
    known; after all six its credit semaphore is its own again. -/
def Pos (c : Dev nD) (m : ℕ) : sProp 𝕄 :=
  if m = 6 then semVal (credCell c) 0
  else iprop(∃ S : Finset ℕ, ⌜m ≤ S.card ∧ S ⊆ Finset.Icc 1 6⌝ ∗ atPos ER (credCell c) 0 S m ∗ bigSep S (fun d => relUpTo (nxt c) d))

theorem exists_ge {S : Finset ℕ} {h : ℕ} (hc : h ≤ S.card) (hs : S ⊆ Finset.Icc 1 6) (h1 : 1 ≤ h) : ∃ d ∈ S, h ≤ d := by
  by_contra hn
  push Not at hn
  have : S ⊆ Finset.Ico 1 h := fun d hd => Finset.mem_Ico.mpr ⟨(Finset.mem_Icc.mp (hs hd)).1, hn d hd⟩
  have := Finset.card_le_card this
  rw [Nat.card_Ico] at this
  omega

omit [FloatOps F] [Named F] in
theorem relUpTo_elim (d : Dev nD) {h m : ℕ} (h1 : 1 ≤ h) (hm : h ≤ m) : relUpTo (F := F) d m ⊢ Release.released ES (d, h) 1 := by
  unfold relUpTo
  exact big_elim (F := F) (fun i => Release.released ES (d, i) 1) (Finset.mem_Icc.mpr ⟨h1, hm⟩)

omit [FloatOps F] [Named F] in
/-- Enough releases known: hop `h`'s slot is among them. -/
theorem rel_known (d : Dev nD) {S : Finset ℕ} {h : ℕ} (hc : h ≤ S.card) (hs : S ⊆ Finset.Icc 1 6) (h1 : 1 ≤ h) :
    bigSep S (fun i => relUpTo (F := F) d i) ⊢ Release.released ES (d, h) 1 := by
  obtain ⟨i, hi, hle⟩ := exists_ge hc hs h1
  exact (big_elim (F := F) (fun i => relUpTo (F := F) d i) hi).trans (relUpTo_elim d h1 hle)

theorem lv_cred (c : Dev nD) (h : ℕ) : lv ((c : Thread nD τ), .reg credS) h = 2 * h + 11 := by
  dsimp only [lv]; rw [if_neg (by rw [credS_val]; decide)]

theorem wp_await (c : Dev nD) (h : ℕ) (h1 : 1 ≤ h ∧ h ≤ 6) :
    iprop(Ctx B κ ν ∗ Pos c (h - 1) ∗ cred (tallyAt (credCell c) h 1) ∗ Ow c (oAt c h) ∗ Release.writeTok ES (nxt c, h) 1)
    ⊢ WP (F := F) c segAwait (fun _ => iprop(Pos c h ∗ Ow c (oAt c h) ∗ slotAny (nxt c) (fin2 (h + 1)))) := by
  unfold segAwait Ow Pos
  rw [if_neg (show ¬ h - 1 = 6 by omega)]
  simp only [semWaitWord, Prog.lift]
  iintro ⟨#HC, ⟨%T, %hT, Hat, #Hrel⟩, Hc, ⟨%W, HO⟩, HwT⟩
  obtain ⟨hTc, hTs⟩ := hT
  ihave #HS := (Ctx_cell B κ ν (mem_cred c)) $$ HC
  icases HS with ⟨HI, Hr⟩
  ihave #HSl := (Ctx_slot B κ ν (nxt c) h h1) $$ HC
  have hmay : (levAts L lv : sProp 𝕄) ⊢ MayWait (c : Thread nD τ) (.reg credS) h (oAt c h) :=
    mayWait_of c (.reg credS) h (2 * h + 11) (by omega) (le_of_eq (lv_cred c h)) _ (fun g u hg => lv_oAt hg)
  by_cases h6 : h = 6
  · rw [if_pos h6]
    iapply (Rounds.wp_wait_rest_token 𝒱₀ ER (rd B) (c : Thread nD τ) none (κ := κ (credCell c))
        (wpE_semWait_eq 𝒱₀ (c : Thread nD τ) none Set.univ) (Set.mem_univ _) h (O := oAt c h) (W := W) (R := 0) (m := h - 1) (T := T)
        (by rw [expect_cred, h6]; decide)) $$ [Hc HO Hat]
    · isplitr; · iexact HI
      isplitl [Hc]; · iexact Hc
      isplitl [HO]; · iexact HO
      isplitr
      · iapply hmay; iapply (Ctx_lev B κ ν); iexact HC
      · iexact Hat
    iintro ⟨HO, Hat, -, Hpay⟩
    ihave #Hrel2 := (show bigSep ((rd B).duties (credCell c) 0 \ T) (fun d => (rd B).payload (credCell c) 0 d)
        ⊢ bigSep (Finset.Icc 1 6 \ T) (fun d => relUpTo (F := F) (nxt c) d) from
      Entails.of_eq (by rw [duties_cred]; exact bigSep_congr fun d _ => payload_cred B c d)) $$ Hpay
    ihave #Hkn : Release.released ES (nxt c, h) 1 $$ []
    · by_cases hm : (6 : ℕ) ∈ T
      · iapply ((big_elim (F := F) (fun i => relUpTo (F := F) (nxt c) i) hm).trans (relUpTo_elim (nxt c) h1.1 h1.2))
        iexact Hrel
      · iapply ((big_elim (F := F) (fun i => relUpTo (F := F) (nxt c) i) (i := 6) (S := Finset.Icc 1 6 \ T) (Finset.mem_sdiff.mpr ⟨by decide, hm⟩)).trans (relUpTo_elim (nxt c) h1.1 h1.2))
        iexact Hrel2
    imod (Release.slot_take ES (Set.mem_univ (ν (nxt c, h))) 1) $$ [HwT] with Hsl
    · isplitr; · iexact HSl
      isplitr; · iexact Hkn
      iexact HwT
    imod (Rounds.cell_close ER (rd B) (Set.mem_univ (κ (credCell c))) (fun h => h) (R := 0 + 1) (duties_later B (credCell c))) $$ [Hat] with Hz
    · isplitr; · iexact HI
      iexact Hat
    rw [wp_ret]
    imodintro
    isplitl [Hz]; · iexact Hz
    isplitl [HO]; · iexists _; iexact HO
    iexact Hsl
  · rw [if_neg h6]
    iapply (Rounds.wp_wait 𝒱₀ ER (rd B) (c : Thread nD τ) none (κ := κ (credCell c))
        (wpE_semWait_eq 𝒱₀ (c : Thread nD τ) none Set.univ) (Set.mem_univ _) (cr := Finsupp.single h 1) (O := oAt c h) (W := W)
        {(SemLoc.reg credS, h)} (R := 0) (m := h - 1) (T := T)
        (by rw [Util.total_single]; decide) (image_single_subset _ _ _)) $$ [Hc HO Hat]
    · isplitr; · iexact HI
      isplitl [Hc]; · iexact Hc
      isplitl [HO]; · iexact HO
      isplitr
      · iapply hmay; iapply (Ctx_lev B κ ν); iexact HC
      · iexact Hat
    iintro %S ⟨%hS, HO, Hat, Hpay⟩
    obtain ⟨hTS, hSd, hle⟩ := hS
    rw [expect_cred, duties_cred] at hle
    rw [duties_cred] at hSd
    have hle : h - 1 + 1 + (Finset.Icc 1 6 \ S).card ≤ 6 := hle
    have hcard : h ≤ S.card := by
      have := Finset.card_sdiff_add_card_eq_card hSd
      rw [Nat.card_Icc] at this
      omega
    ihave #Hrel2 := (show bigSep (S \ T) (fun d => (rd B).payload (credCell c) 0 d)
        ⊢ bigSep (S \ T) (fun d => relUpTo (F := F) (nxt c) d) from
      Entails.of_eq (bigSep_congr fun d _ => payload_cred B c d)) $$ Hpay
    ihave #HrelS : bigSep S (fun d => relUpTo (F := F) (nxt c) d) $$ []
    · iapply (show iprop(bigSep T (fun d => relUpTo (F := F) (nxt c) d) ∗ bigSep (S \ T) (fun d => relUpTo (F := F) (nxt c) d))
          ⊢ bigSep S (fun d => relUpTo (F := F) (nxt c) d) from
        (big_union (F := F) (fun d => relUpTo (F := F) (nxt c) d) T (S \ T)).trans
          (Entails.of_eq (congrArg (fun U => bigSep U (fun d => relUpTo (F := F) (nxt c) d)) (Finset.union_sdiff_of_subset hTS))))
      isplitr; · iexact Hrel
      iexact Hrel2
    ihave #Hkn := (rel_known (nxt c) hcard hSd h1.1) $$ HrelS
    imod (Release.slot_take ES (Set.mem_univ (ν (nxt c, h))) 1) $$ [HwT] with Hsl
    · isplitr; · iexact HSl
      isplitr; · iexact Hkn
      iexact HwT
    rw [wp_ret]
    imodintro
    isplitl [Hat]
    · iexists S
      isplitr; · ipureintro; exact ⟨hcard, hSd⟩
      isplitl [Hat]
      · rw [show h - 1 + (BitVec.toNat 1#32) = h from Nat.sub_add_cancel h1.1]
        iexact Hat
      · iexact HrelS
    isplitl [HO]; · iexists _; iexact HO
    iexact Hsl

theorem wp_credit (c n : Dev nD) (hn : n = prv c) (h : ℕ) (h1 : 1 ≤ h ∧ h ≤ 6) (i : Fin 2) (hi : i = fin2 (h + 1)) (j : Dev nD) :
    iprop(Ctx B κ ν ∗ slotPts B c i fullShare j ∗ Release.readerAt ES (c, h) 0 ∗ relUpTo c (h - 1)
      ∗ dutyTok ER (credCell (prv c)) 0 h ∗ Ow c (oAfter c (h - 1)))
    ⊢ WP (F := F) c (segCredit n) (fun _ => iprop(relUpTo c h ∗ Ow c (oAt c h))) := by
  subst hn hi
  unfold segCredit Ow
  simp only [semSignalWord, Prog.lift]
  iintro ⟨#HC, Hs, Hrd, #Hrel, Ht, ⟨%W, HO⟩⟩
  have e : oAfter c (h - 1) = oAt c h + tallyAt (credCell (prv c)) h 1 := by
    obtain ⟨k, rfl⟩ : ∃ k, h = k + 1 := ⟨h - 1, by omega⟩
    exact oAfter_cred c (by omega)
  ihave #HP := (Ctx_cell B κ ν (mem_cred (prv c))) $$ HC
  icases HP with ⟨HI, Hr⟩
  ihave #HSl := (Ctx_slot B κ ν c h h1) $$ HC
  imod (Release.slot_release ES (Set.mem_univ (ν (c, h))) (slotAny_excl c (fin2 (h + 1))) 0) $$ [Hrd Hs] with ⟨Hrd, #Hkn⟩
  · isplitr; · iexact HSl
    isplitl [Hrd]; · iexact Hrd
    unfold slotAny Release.slot slotPts
    iexists _; iexact Hs
  ihave #Hup : relUpTo (F := F) c h $$ []
  · unfold relUpTo
    rw [show Finset.Icc 1 h = Finset.Icc 1 (h - 1) ∪ {h} from by
      ext x; simp only [Finset.mem_Icc, Finset.mem_union, Finset.mem_singleton]; omega]
    iapply (big_union (F := F) (fun i => Release.released ES (c, i) 1) (Finset.Icc 1 (h - 1)) {h})
    isplitr; · iexact Hrel
    rw [bigSep_singleton]
    iexact Hkn
  iapply (Rounds.wp_signal 𝒱₀ ER (rd B) (c : Thread nD τ) none (dst := (prv c : Thread nD τ)) (κ := κ (credCell (prv c)))
      (r := 0) (d := h) (by rw [duties_cred]; exact Finset.mem_Icc.mpr h1) ((amount_cred B (prv c) h).trans (by decide)) h (oAt c h) e)
    $$ [HO Ht]
  · isplitr; · iexact HI
    isplitl [HO]; · iexact HO
    isplitl [Ht]; · iexact Ht
    isplitr
    · rw [payload_cred, nxt_prv]; iexact Hup
    · iexact Hr
  iintro HO
  rw [wp_ret]
  imodintro
  isplitr; · iexact Hup
  iexists _; iexact HO

end Cert.KernelIdeal.Run
end
-- ==== Proof.Hop.lean ====
module

public import proofs.«01_k».proof.Proof.Coll

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig ℕ (Elt F) ℕ UU ℕ

variable (B : Vals F)

variable (κ : GSem nD τ sig → ℕ) (ν : Dev nD × ℕ → ℕ)

/-! ## A hop's computation -/

/-- Between hops: the device's own buffers, the accumulator holding the first `h` hops' sum. -/
def Work (c : Dev nD) (h : ℕ) : sProp 𝕄 :=
  iprop(fetchIdle B c ∗ (∃ f, pW (F := F) c cc0_scratch3 f) ∗ (∃ f, pW (F := F) c cc0_scratch4 f)
    ∗ pW c cc0_scratch2 (xbV B c) ∗ pW c cc0_scratch7 (biasV (F := F)) ∗ pW c cc0_stg3_0 (acc B c h)
    ∗ (∃ f, pW (F := F) c cc0_scratch1 f) ∗ (∃ f, pW (F := F) c cc0_scratch5 f) ∗ (∃ f, pW (F := F) c cc0_scratch6 f))
/-- The same with hop `h`'s keys and values on their way. -/
def Busy (c : Dev nD) (h : Fin 8) : sProp 𝕄 :=
  iprop(fetching B c h
    ∗ pW c cc0_scratch2 (xbV B c) ∗ pW c cc0_scratch7 (biasV (F := F)) ∗ pW c cc0_stg3_0 (acc B c h.val)
    ∗ (∃ f, pW (F := F) c cc0_scratch1 f) ∗ (∃ f, pW (F := F) c cc0_scratch5 f) ∗ (∃ f, pW (F := F) c cc0_scratch6 f))

theorem wp_start (c : Dev nD) (h : Fin 8) : Work B c h.val ⊢ WP (F := F) c (segFetch c h) (fun _ => Busy B c h) := by
  unfold Work Busy
  iintro ⟨Hi, H3, H4, Hrest⟩
  iapply (wp_wand_r _ _ _)
  isplitl [Hi H3 H4]
  · iapply (wp_fetch B c h)
    isplitl [Hi]; · iexact Hi
    isplitl [H3]; · iexact H3
    iexact H4
  iintro %a H
  isplitl [H]; · iexact H
  iexact Hrest

theorem wp_compute (c : Dev nD) (h : Fin 8) (q : PosShare TreeShare) (O : CellTallies nD τ sig ℕ)
    (hO : ∀ (g : GSem nD τ sig) (u : ℕ), 0 < O g u → 0 < lv g u ∧ u ∈ L g) :
    iprop(levAts L lv ∗ Busy B c h ∗ slotPts B c (sl h) q (back c h.val) ∗ Ow c O)
    ⊢ WP (F := F) c (segCompute c h) (fun _ => iprop(Work B c (h.val + 1) ∗ slotPts B c (sl h) q (back c h.val) ∗ Ow c O)) := by
  have hf : f8 h.val = h := Fin.ext (Nat.mod_eq_of_lt h.isLt)
  have ha : acc B c (h.val + 1) = k0_pay15 (acc B c h.val) (ctxF (qsV B c (back c h.val)) (kV B c h) (vV B c h)) (woV B (back c h.val)) := by
    show k0_pay15 (acc B c h.val) (ctxV B c h.val) (woV B (back c h.val)) = _
    unfold ctxV; rw [hf]
  unfold segCompute Busy Work Ow
  rw [ha]
  iintro ⟨#HL, ⟨Hf, Hxb, Hb, Ha, H1, H5, H6⟩, Hs, ⟨%W, HO⟩⟩
  iapply (seg_step (wp_kv B c h O W hO)) $$ [Hf HO]
  · isplitr; · iexact HL
    isplitl [Hf]; · iexact Hf
    iexact HO
  iintro %_ ⟨Hi, H3, H4, HO⟩
  iapply (seg_step (wp_query B c (back c h.val) (sl h) q)) $$ [Hs Hxb H1 H5]
  · isplitl [Hs]; · iexact Hs
    isplitl [Hxb]; · iexact Hxb
    isplitl [H1]; · iexact H1
    iexact H5
  iintro %_ ⟨Hs, Hxb, H1, H5⟩
  iapply (seg_step (wp_heads c (qsV B c (back c h.val)) (kV B c h) (vV B c h))) $$ [H5 H3 H4 Hb H6]
  · isplitl [H5]; · iexact H5
    isplitl [H3]; · iexact H3
    isplitl [H4]; · iexact H4
    isplitl [Hb]; · iexact Hb
    iexact H6
  iintro %_ ⟨H5, H3, H4, Hb, H6⟩
  iapply (wp_wand_r _ _ _)
  isplitl [Ha H6 H1]
  · iapply (wp_acc c (acc B c h.val) (ctxF (qsV B c (back c h.val)) (kV B c h) (vV B c h)) (woV B (back c h.val)))
    isplitl [Ha]; · iexact Ha
    isplitl [H6]; · iexact H6
    iexact H1
  iintro %_ ⟨Ha, H6, H1⟩
  isplitl [Hi H3 H4 Hxb Hb Ha H1 H5 H6]
  · isplitl [Hi]; · iexact Hi
    isplitl [H3]; · iexists _; iexact H3
    isplitl [H4]; · iexists _; iexact H4
    isplitl [Hxb]; · iexact Hxb
    isplitl [Hb]; · iexact Hb
    isplitl [Ha]; · iexact Ha
    isplitl [H1]; · iexists _; iexact H1
    isplitl [H5]; · iexists _; iexact H5
    iexists _; iexact H6
  isplitl [Hs]; · iexact Hs
  iexact HO

/-! ## Whole hops -/

/-- What a hop's send needs and leaves behind on the device's own send semaphore. -/
def sendTok (c : Dev nD) (h : Fin 8) : sProp 𝕄 :=
  iprop(dutyTok ER (sendCell c h) 0 0 ∗ dutyTok ER (recvCell (nxt c) h) 0 0 ∗ atPos ER (sendCell c h) 0 ∅ 0)
/-- What the arrival of hop `h`'s weights needs. -/
def recvTok (c : Dev nD) (h : Fin 8) : sProp 𝕄 :=
  iprop(cred (tallyAt (recvCell c h) 0 N) ∗ atPos ER (recvCell c h) 0 ∅ 0)
/-- The credit of hop `h` and the right to write the neighbour's slot with it. -/
def waitTok (c : Dev nD) (h : ℕ) : sProp 𝕄 :=
  iprop(cred (tallyAt (credCell c) h 1) ∗ Release.writeTok ES (nxt c, h) 1)
/-- What giving credit `h` to the left neighbour needs. -/
def creditTok (c : Dev nD) (h : ℕ) : sProp 𝕄 :=
  iprop(Release.readerAt ES (c, h) 0 ∗ dutyTok ER (credCell (prv c)) 0 h)

/-- After hop `h`'s send is through: its weights are the device's again. -/
def Mid (c : Dev nD) (h : Fin 8) : sProp 𝕄 :=
  iprop(Ow c (oAfter c h.val) ∗ Work B c (h.val + 1) ∗ slotPts B c (sl h) fullShare (back c h.val))

theorem lv_pos_oAfter (c : Dev nD) (h : ℕ) (g : GSem nD τ sig) (u : ℕ) (hg : 0 < oAfter c h g u) : 0 < lv g u ∧ u ∈ L g :=
  ⟨by have := (lv_oAfter hg).1; omega, (lv_oAfter hg).2⟩

/-- Send, compute, wait for the send's end. -/
def segMain (d n : Dev nD) (h : Fin 8) : Prog (TpuEff nD τ sig (Elt F) Λ₀ .tc) PUnit := do
  segSend n h
  segCompute d h
  segFree h

theorem wp_main (c n : Dev nD) (hn : n = nxt c) (h : Fin 8) (hh : h.val < 7) :
    iprop(Ctx B κ ν ∗ Busy B c h ∗ slotPts B c (sl h) fullShare (back c h.val) ∗ slotAny (nxt c) (sl' h) ∗ Ow c (oAt c h.val)
      ∗ sendTok c h)
    ⊢ WP (F := F) c (segMain c n h) (fun _ => iprop(Mid B c h ∗ semVal (sendCell c h) 0)) := by
  unfold segMain sendTok Mid
  iintro ⟨#HC, Hb, Hs, Hd, HO, HtS, HtR, Hat⟩
  iapply (seg_step (wp_send B κ ν c n hn h hh)) $$ [Hs Hd HO HtS HtR]
  · isplitr; · iexact HC
    isplitl [Hs]; · iexact Hs
    isplitl [Hd]; · iexact Hd
    isplitl [HO]; · iexact HO
    isplitl [HtS]; · iexact HtS
    iexact HtR
  iintro %_ ⟨Hs, Hc, HO⟩
  iapply (seg_step (wp_compute B c h fullShare.left (oAfter c h.val) (lv_pos_oAfter c h.val))) $$ [Hb Hs HO]
  · isplitr; · iapply (Ctx_lev B κ ν); iexact HC
    isplitl [Hb]; · iexact Hb
    isplitl [Hs]; · iexact Hs
    iexact HO
  iintro %_ ⟨Hw, Hs, HO⟩
  iapply (wp_wand_r _ _ _)
  isplitl [Hs Hc HO Hat]
  · iapply (wp_free B κ ν c h hh)
    isplitr; · iexact HC
    isplitl [Hs]; · iexact Hs
    isplitl [Hc]; · iexact Hc
    isplitl [HO]; · iexact HO
    iexact Hat
  iintro %_ ⟨Hs, HO, Hz⟩
  isplitl [Hw Hs HO]
  · isplitl [HO]; · iexact HO
    isplitl [Hw]; · iexact Hw
    iexact Hs
  iexact Hz

theorem segHop_eq (d n : Dev nD) (h' h : Fin 8) :
    segHop (F := F) d n h' h = (do segArrive h'; segAwait; segMain d n h) := rfl

theorem wp_hop (c n : Dev nD) (hn : n = nxt c) (h' h : Fin 8) (he : h.val = h'.val + 1) (hh : h.val < 7) :
    iprop(Ctx B κ ν ∗ Busy B c h ∗ Ow c (oAt c h.val) ∗ Pos c h'.val ∗ recvTok c h' ∗ waitTok c h.val ∗ sendTok c h)
    ⊢ WP (F := F) c (segHop c n h' h) (fun _ => iprop(Mid B c h ∗ Pos c h.val ∗ semVal (recvCell c h') 0 ∗ semVal (sendCell c h) 0)) := by
  have hs : sl' h' = sl h := Fin.ext (by show (h'.val + 1) % 2 = h.val % 2; rw [he])
  have hs2 : (fin2 (h.val + 1)) = sl' h := rfl
  have hA := wp_arrive B κ ν c h' (by omega)
  have hW := wp_await B κ ν c h.val ⟨by omega, by omega⟩
  rw [hs, ← he] at hA
  rw [hs2, show h.val - 1 = h'.val by omega] at hW
  rw [segHop_eq]
  unfold recvTok waitTok
  iintro ⟨#HC, Hb, HO, Hp, ⟨Hrc, Hrat⟩, ⟨Hcc, Hwt⟩, Htok⟩
  iapply (seg_step hA) $$ [Hrc HO Hrat]
  · isplitr; · iexact HC
    isplitl [Hrc]; · iexact Hrc
    isplitl [HO]; · iexact HO
    iexact Hrat
  iintro %_ ⟨Hs, HO, Hz⟩
  iapply (seg_step hW) $$ [Hp Hcc HO Hwt]
  · isplitr; · iexact HC
    isplitl [Hp]; · iexact Hp
    isplitl [Hcc]; · iexact Hcc
    isplitl [HO]; · iexact HO
    iexact Hwt
  iintro %_ ⟨Hp, HO, Hd⟩
  iapply (wp_wand_r _ _ _)
  isplitl [Hb Hs Hd HO Htok]
  · iapply (wp_main B κ ν c n hn h hh)
    isplitr; · iexact HC
    isplitl [Hb]; · iexact Hb
    isplitl [Hs]; · iexact Hs
    isplitl [Hd]; · iexact Hd
    isplitl [HO]; · iexact HO
    iexact Htok
  iintro %_ ⟨Hm, Hz2⟩
  isplitl [Hm]; · iexact Hm
  isplitl [Hp]; · iexact Hp
  isplitl [Hz]; · iexact Hz
  iexact Hz2

/-- Credit to the left, then the next hop's keys and values, then that hop. -/
def segTurn (d p n : Dev nD) (h' h : Fin 8) : Prog (TpuEff nD τ sig (Elt F) Λ₀ .tc) PUnit := do
  segCredit p
  segFetch d h
  segHop d n h' h

theorem wp_turn (c p n : Dev nD) (hp : p = prv c) (hn : n = nxt c) (h' h : Fin 8) (he : h.val = h'.val + 1) (hh : h.val < 7) :
    iprop(Ctx B κ ν ∗ Mid B c h' ∗ relUpTo c h'.val ∗ creditTok c h.val ∗ Pos c h'.val ∗ recvTok c h' ∗ waitTok c h.val ∗ sendTok c h)
    ⊢ WP (F := F) c (segTurn c p n h' h) (fun _ => iprop(Mid B c h ∗ relUpTo c h.val ∗ Pos c h.val
        ∗ semVal (recvCell c h') 0 ∗ semVal (sendCell c h) 0)) := by
  have hC := wp_credit B κ ν c p hp h.val ⟨by omega, by omega⟩ (sl h')
    (Fin.ext (by show h'.val % 2 = (h.val + 1) % 2; omega)) (back c h'.val)
  rw [show h.val - 1 = h'.val by omega] at hC
  have hF := wp_start B c h
  rw [he] at hF
  unfold segTurn Mid creditTok
  iintro ⟨#HC, ⟨HO, Hw, Hs⟩, Hrel, ⟨Hrd, Hdt⟩, Hp, Hr, Hwt, Htok⟩
  iapply (seg_step hC) $$ [Hs Hrd Hrel Hdt HO]
  · isplitr; · iexact HC
    isplitl [Hs]; · iexact Hs
    isplitl [Hrd]; · iexact Hrd
    isplitl [Hrel]; · iexact Hrel
    isplitl [Hdt]; · iexact Hdt
    iexact HO
  iintro %_ ⟨Hrel, HO⟩
  iapply (seg_step hF) $$ [Hw]
  · iexact Hw
  iintro %_ Hb
  iapply (wp_wand_r _ _ _)
  isplitl [Hb HO Hp Hr Hwt Htok]
  · iapply (wp_hop B κ ν c n hn h' h he hh)
    isplitr; · iexact HC
    isplitl [Hb]; · iexact Hb
    isplitl [HO]; · iexact HO
    isplitl [Hp]; · iexact Hp
    isplitl [Hr]; · iexact Hr
    isplitl [Hwt]; · iexact Hwt
    iexact Htok
  unfold Mid
  iintro %_ ⟨Hm, Hp, Hz, Hz2⟩
  isplitl [Hm]; · iexact Hm
  isplitl [Hrel]; · iexact Hrel
  isplitl [Hp]; · iexact Hp
  isplitl [Hz]; · iexact Hz
  iexact Hz2

/-- The last hop: nothing to forward. -/
def segLast (d : Dev nD) : Prog (TpuEff nD τ sig (Elt F) Λ₀ .tc) PUnit := do
  segFetch d 7
  segArrive 6
  segCompute d 7

theorem wp_last (c : Dev nD) :
    iprop(Ctx B κ ν ∗ Mid B c 6 ∗ recvTok c 6)
    ⊢ WP (F := F) c (segLast c) (fun _ => iprop(Ow c 0 ∗ Work B c 8 ∗ slotPts B c 0 fullShare (back c 6) ∗ slotPts B c 1 fullShare (back c 7)
        ∗ semVal (recvCell c 6) 0)) := by
  have h6 : oAfter c (6 : Fin 8).val = oAt c 7 := (oAfter_six c).trans (oAt_seven c).symm
  have h7 := oAt_seven c
  have hA := wp_arrive B κ ν c 6 (by decide)
  unfold segLast Mid recvTok
  iintro ⟨#HC, ⟨HO, Hw, Hs⟩, ⟨Hrc, Hrat⟩⟩
  iapply (seg_step (wp_start B c 7)) $$ [Hw]
  · iexact Hw
  iintro %_ Hb
  iapply (seg_step hA) $$ [Hrc HO Hrat]
  · isplitr; · iexact HC
    isplitl [Hrc]; · iexact Hrc
    isplitl [HO]; · rw [h6]; iexact HO
    iexact Hrat
  iintro %_ ⟨Hs7, HO, Hz⟩
  iapply (wp_wand_r _ _ _)
  isplitl [Hb Hs7 HO]
  · iapply (wp_compute B c 7 fullShare (oAt c 7) (fun g u hg => ⟨by have := (lv_oAt hg).1; omega, (lv_oAt hg).2⟩))
    isplitr; · iapply (Ctx_lev B κ ν); iexact HC
    isplitl [Hb]; · iexact Hb
    isplitl [Hs7]; · iexact Hs7
    iexact HO
  rw [h7]
  iintro %_ ⟨Hw, Hs7, HO⟩
  isplitl [HO]; · iexact HO
  isplitl [Hw]; · iexact Hw
  isplitl [Hs]; · iexact Hs
  isplitl [Hs7]; · iexact Hs7
  iexact Hz

end Cert.KernelIdeal.Run
end
-- ==== Proof.Body.lean ====
module

public import proofs.«01_k».proof.Proof.Hop

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig ℕ (Elt F) ℕ UU ℕ

variable (B : Vals F)

variable (κ : GSem nD τ sig → ℕ) (ν : Dev nD × ℕ → ℕ)

/-! ## The body from start to end -/

theorem dev_prv (c : Dev nD) (n : ℕ) (h : n < nD) (e : n = (c.val + 7) % 8) : (⟨n, h⟩ : Dev nD) = prv c := Fin.ext e
theorem dev_nxt (c : Dev nD) (n : ℕ) (h : n < nD) (e : n = (c.val + 1) % 8) : (⟨n, h⟩ : Dev nD) = nxt c := Fin.ext e

theorem segBody_eq : segBody (F := F) = (do
    let d ← Prog.lift .deviceId
    segInit
    segBarrier d
    segZero
    segFetch d 0
    segMain d ⟨k0_dev3 d, k0_dev3_lt d⟩ 0
    segTurn d ⟨k0_dev4 d, k0_dev4_lt d⟩ ⟨k0_dev5 d, k0_dev5_lt d⟩ 0 1
    segTurn d ⟨k0_dev6 d, k0_dev6_lt d⟩ ⟨k0_dev7 d, k0_dev7_lt d⟩ 1 2
    segTurn d ⟨k0_dev8 d, k0_dev8_lt d⟩ ⟨k0_dev9 d, k0_dev9_lt d⟩ 2 3
    segTurn d ⟨k0_dev10 d, k0_dev10_lt d⟩ ⟨k0_dev11 d, k0_dev11_lt d⟩ 3 4
    segTurn d ⟨k0_dev12 d, k0_dev12_lt d⟩ ⟨k0_dev13 d, k0_dev13_lt d⟩ 4 5
    segTurn d ⟨k0_dev14 d, k0_dev14_lt d⟩ ⟨k0_dev15 d, k0_dev15_lt d⟩ 5 6
    segLast d) := by
  simp only [segBody, segMain, segTurn, segLast, segHop, bind_assoc]

omit [FloatOps F] [Named F] in
theorem range7 (Φ : ℕ → sProp 𝕄) : bigSep (Finset.range 7) Φ = iprop(Φ 0 ∗ Φ 1 ∗ Φ 2 ∗ Φ 3 ∗ Φ 4 ∗ Φ 5 ∗ Φ 6) := by
  rw [bigSep_eq_bigSepL_of_eq [0, 1, 2, 3, 4, 5, 6] (by decide) (by decide)]; rfl
omit [FloatOps F] [Named F] in
theorem icc6 (Φ : ℕ → sProp 𝕄) : bigSep (Finset.Icc 1 6) Φ = iprop(Φ 1 ∗ Φ 2 ∗ Φ 3 ∗ Φ 4 ∗ Φ 5 ∗ Φ 6) := by
  rw [bigSep_eq_bigSepL_of_eq [1, 2, 3, 4, 5, 6] (by decide) (by decide)]; rfl

/-- Everything a device's part of the exchange starts from. -/
def Toks (c : Dev nD) : sProp 𝕄 :=
  iprop(dutyTok ER (barCell (prv c)) 0 0 ∗ dutyTok ER (barCell (nxt c)) 0 1 ∗ cred (tallyAt (barCell c) 0 2) ∗ atPos ER (barCell c) 0 ∅ 0
    ∗ atPos ER (credCell c) 0 ∅ 0
    ∗ bigSep (Finset.range 7) (fun h => sendTok c (f8 h)) ∗ bigSep (Finset.range 7) (fun h => recvTok c (f8 h))
    ∗ bigSep (Finset.Icc 1 6) (fun h => waitTok c h) ∗ bigSep (Finset.Icc 1 6) (fun h => creditTok c h))

/-- The input blocks staged. -/
def Staged (c : Dev nD) : sProp 𝕄 :=
  iprop(pW c cc0_stg0_0 (B.x c) ∗ pW c cc0_stg1_0 (B.wq c) ∗ pW c cc0_stg2_0 (B.wo c))

/-- The kernel's own buffers, at any contents. -/
def Bufs (c : Dev nD) : sProp 𝕄 :=
  iprop((∃ f, pW (F := F) c cc0_scratch0 f) ∗ (∃ f, pW (F := F) c cc0_scratch1 f) ∗ (∃ f, pW (F := F) c cc0_scratch2 f)
    ∗ (∃ f, pW (F := F) c cc0_scratch3 f) ∗ (∃ f, pW (F := F) c cc0_scratch4 f) ∗ (∃ f, pW (F := F) c cc0_scratch5 f)
    ∗ (∃ f, pW (F := F) c cc0_scratch6 f) ∗ (∃ f, pW (F := F) c cc0_scratch7 f))

/-- The semaphores of the exchange, all at zero. -/
def Zeros (c : Dev nD) : sProp 𝕄 :=
  iprop(semVal (barCell c) 0 ∗ semVal (credCell c) 0 ∗ bigSep (Finset.range 7) (fun h => semVal (sendCell c (f8 h)) 0)
    ∗ bigSep (Finset.range 7) (fun h => semVal (recvCell c (f8 h)) 0))

omit [FloatOps F] [Named F] in
/-- The two slots are the whole communication buffer again. -/
theorem slots_join (c : Dev nD) : iprop(slotAny (F := F) c 0 ∗ slotAny c 1) ⊢ (iprop(∃ f, pW (F := F) c cc0_scratch0 f) : sProp 𝕄) := by
  unfold slotAny Release.slot
  iintro ⟨⟨%f, H0⟩, ⟨%g, H1⟩⟩
  have e : iprop(((c : Thread nD τ).loc cc0_scratch0 ↦[(slotM 0).view.set]{fullShare} f) ∗ ((c : Thread nD τ).loc cc0_scratch0 ↦[Finset.univ \ (slotM 0).view.set]{fullShare} g))
      ⊢ ((c : Thread nD τ).loc cc0_scratch0 ↦[Finset.univ]{fullShare} ((slotM 0).view.set.piecewise f g) : sProp 𝕄) :=
    pointsTo_join_subset (Finset.subset_univ _)
  rw [slot_compl] at e
  iexists ((slotM 0).view.set.piecewise f g)
  iapply e
  isplitl [H0]; · iexact H0
  iexact H1

omit [FloatOps F] [Named F] in
theorem Pos_six (c : Dev nD) : Pos (F := F) c (6 : Fin 8).val = semVal (credCell c) 0 := by unfold Pos; exact if_pos rfl

theorem body_wp (c : Dev nD) :
    iprop(Ctx B κ ν ∗ Ow c (o₀ c) ∗ Toks c ∗ Staged B c ∗ (∃ f, pW (F := F) c cc0_stg3_0 f) ∗ Bufs c ∗ fetchIdle B c)
    ⊢ WP (F := F) c segBody (fun _ => iprop(Ow c 0 ∗ Staged B c ∗ pW c cc0_stg3_0 (acc B c 8) ∗ Bufs c ∗ fetchIdle B c ∗ Zeros c)) := by
  rw [segBody_eq]
  unfold Toks
  rw [range7, range7, icc6, icc6]
  unfold Staged Bufs
  simp only [Prog.lift, Prog.bind_op, Prog.bind_ret, Prog.pure_eq_ret, wp_deviceId]
  iintro ⟨#HC, HO, ⟨HtP, HtN, HcB, HatB, HatC, ⟨HS0, HS1, HS2, HS3, HS4, HS5, HS6⟩, ⟨HR0, HR1, HR2, HR3, HR4, HR5, HR6⟩,
    ⟨HW1, HW2, HW3, HW4, HW5, HW6⟩, ⟨HK1, HK2, HK3, HK4, HK5, HK6⟩⟩, ⟨Hx, Hq, Ho⟩, Hout, ⟨H0, H1, H2, H3, H4, H5, H6, H7⟩, Hi⟩
  iapply (seg_step (wp_init B c)) $$ [Hx Hq Ho H0 H2 H7]
  · isplitl [Hx]; · iexact Hx
    isplitl [Hq]; · iexact Hq
    isplitl [Ho]; · iexact Ho
    isplitl [H0]; · iexact H0
    isplitl [H2]; · iexact H2
    iexact H7
  iintro %_ ⟨Hx, Hq, Ho, Hs0, Hs1, H2, H7⟩
  iapply (seg_step (wp_barrier B κ ν c)) $$ [HO HtP HtN Hs1 HcB HatB]
  · isplitr; · iexact HC
    isplitl [HO]; · iexact HO
    isplitl [HtP]; · iexact HtP
    isplitl [HtN]; · iexact HtN
    isplitl [Hs1]; · iexact Hs1
    isplitl [HcB]; · iexact HcB
    iexact HatB
  iintro %_ ⟨HO, Hd, HzB⟩
  iapply (seg_step (wp_zero B c)) $$ [Hout]
  · iexact Hout
  iintro %_ Hout
  iapply (seg_step (wp_start B c 0)) $$ [Hi H1 H2 H3 H4 H5 H6 H7 Hout]
  · unfold Work
    isplitl [Hi]; · iexact Hi
    isplitl [H3]; · iexact H3
    isplitl [H4]; · iexact H4
    isplitl [H2]; · iexact H2
    isplitl [H7]; · iexact H7
    isplitl [Hout]; · iexact Hout
    isplitl [H1]; · iexact H1
    isplitl [H5]; · iexact H5
    iexact H6
  iintro %_ Hb
  have b0 : back c (0 : Fin 8).val = c := back_zero c
  have hM := wp_main B κ ν c ⟨k0_dev3 c, k0_dev3_lt c⟩ (dev_nxt c _ _ (k0_dev3_eq c)) 0 (by decide)
  rw [b0] at hM
  iapply (seg_step hM) $$ [Hb Hs0 Hd HO HS0]
  · isplitr; · iexact HC
    isplitl [Hb]; · iexact Hb
    isplitl [Hs0]; · iexact Hs0
    isplitl [Hd]; · iexact Hd
    isplitl [HO]; · iexact HO
    iexact HS0
  iintro %_ ⟨Hm, HzS0⟩
  ihave Hp : Pos (F := F) c 0 $$ [HatC]
  · unfold Pos
    rw [if_neg (by decide)]
    iexists ∅
    isplitr; · ipureintro; exact ⟨Nat.zero_le _, Finset.empty_subset _⟩
    isplitl [HatC]; · iexact HatC
    rw [bigSep_empty]; iempintro
  ihave Hrel : relUpTo (F := F) c 0 $$ []
  · unfold relUpTo
    rw [show Finset.Icc 1 0 = (∅ : Finset ℕ) from rfl, bigSep_empty]; iempintro
  iapply (seg_step (wp_turn B κ ν c ⟨k0_dev4 c, k0_dev4_lt c⟩ ⟨k0_dev5 c, k0_dev5_lt c⟩ (dev_prv c _ _ (k0_dev4_eq c))
    (dev_nxt c _ _ (k0_dev5_eq c)) 0 1 (by decide) (by decide))) $$ [Hm Hrel HK1 Hp HR0 HW1 HS1]
  · isplitr; · iexact HC
    isplitl [Hm]; · iexact Hm
    isplitl [Hrel]; · iexact Hrel
    isplitl [HK1]; · iexact HK1
    isplitl [Hp]; · iexact Hp
    isplitl [HR0]; · iexact HR0
    isplitl [HW1]; · iexact HW1
    iexact HS1
  iintro %_ ⟨Hm, Hrel, Hp, HzR0, HzS1⟩
  iapply (seg_step (wp_turn B κ ν c ⟨k0_dev6 c, k0_dev6_lt c⟩ ⟨k0_dev7 c, k0_dev7_lt c⟩ (dev_prv c _ _ (k0_dev6_eq c))
    (dev_nxt c _ _ (k0_dev7_eq c)) 1 2 (by decide) (by decide))) $$ [Hm Hrel HK2 Hp HR1 HW2 HS2]
  · isplitr; · iexact HC
    isplitl [Hm]; · iexact Hm
    isplitl [Hrel]; · iexact Hrel
    isplitl [HK2]; · iexact HK2
    isplitl [Hp]; · iexact Hp
    isplitl [HR1]; · iexact HR1
    isplitl [HW2]; · iexact HW2
    iexact HS2
  iintro %_ ⟨Hm, Hrel, Hp, HzR1, HzS2⟩
  iapply (seg_step (wp_turn B κ ν c ⟨k0_dev8 c, k0_dev8_lt c⟩ ⟨k0_dev9 c, k0_dev9_lt c⟩ (dev_prv c _ _ (k0_dev8_eq c))
    (dev_nxt c _ _ (k0_dev9_eq c)) 2 3 (by decide) (by decide))) $$ [Hm Hrel HK3 Hp HR2 HW3 HS3]
  · isplitr; · iexact HC
    isplitl [Hm]; · iexact Hm
    isplitl [Hrel]; · iexact Hrel
    isplitl [HK3]; · iexact HK3
    isplitl [Hp]; · iexact Hp
    isplitl [HR2]; · iexact HR2
    isplitl [HW3]; · iexact HW3
    iexact HS3
  iintro %_ ⟨Hm, Hrel, Hp, HzR2, HzS3⟩
  iapply (seg_step (wp_turn B κ ν c ⟨k0_dev10 c, k0_dev10_lt c⟩ ⟨k0_dev11 c, k0_dev11_lt c⟩ (dev_prv c _ _ (k0_dev10_eq c))
    (dev_nxt c _ _ (k0_dev11_eq c)) 3 4 (by decide) (by decide))) $$ [Hm Hrel HK4 Hp HR3 HW4 HS4]
  · isplitr; · iexact HC
    isplitl [Hm]; · iexact Hm
    isplitl [Hrel]; · iexact Hrel
    isplitl [HK4]; · iexact HK4
    isplitl [Hp]; · iexact Hp
    isplitl [HR3]; · iexact HR3
    isplitl [HW4]; · iexact HW4
    iexact HS4
  iintro %_ ⟨Hm, Hrel, Hp, HzR3, HzS4⟩
  iapply (seg_step (wp_turn B κ ν c ⟨k0_dev12 c, k0_dev12_lt c⟩ ⟨k0_dev13 c, k0_dev13_lt c⟩ (dev_prv c _ _ (k0_dev12_eq c))
    (dev_nxt c _ _ (k0_dev13_eq c)) 4 5 (by decide) (by decide))) $$ [Hm Hrel HK5 Hp HR4 HW5 HS5]
  · isplitr; · iexact HC
    isplitl [Hm]; · iexact Hm
    isplitl [Hrel]; · iexact Hrel
    isplitl [HK5]; · iexact HK5
    isplitl [Hp]; · iexact Hp
    isplitl [HR4]; · iexact HR4
    isplitl [HW5]; · iexact HW5
    iexact HS5
  iintro %_ ⟨Hm, Hrel, Hp, HzR4, HzS5⟩
  iapply (seg_step (wp_turn B κ ν c ⟨k0_dev14 c, k0_dev14_lt c⟩ ⟨k0_dev15 c, k0_dev15_lt c⟩ (dev_prv c _ _ (k0_dev14_eq c))
    (dev_nxt c _ _ (k0_dev15_eq c)) 5 6 (by decide) (by decide))) $$ [Hm Hrel HK6 Hp HR5 HW6 HS6]
  · isplitr; · iexact HC
    isplitl [Hm]; · iexact Hm
    isplitl [Hrel]; · iexact Hrel
    isplitl [HK6]; · iexact HK6
    isplitl [Hp]; · iexact Hp
    isplitl [HR5]; · iexact HR5
    isplitl [HW6]; · iexact HW6
    iexact HS6
  iintro %_ ⟨Hm, Hrel, Hp, HzR5, HzS6⟩
  iapply (wp_wand_r _ _ _)
  isplitl [Hm HR6]
  · iapply (wp_last B κ ν c)
    isplitr; · iexact HC
    isplitl [Hm]; · iexact Hm
    iexact HR6
  iintro %_ ⟨HO, Hw, Hs0, Hs1, HzR6⟩
  unfold Work
  icases Hw with ⟨Hi, H3, H4, H2, H7, Hout, H1, H5, H6⟩
  isplitl [HO]; · iexact HO
  isplitl [Hx Hq Ho]
  · isplitl [Hx]; · iexact Hx
    isplitl [Hq]; · iexact Hq
    iexact Ho
  isplitl [Hout]; · iexact Hout
  isplitl [Hs0 Hs1 H1 H2 H3 H4 H5 H6 H7]
  · isplitl [Hs0 Hs1]
    · iapply (slots_join c)
      unfold slotAny Release.slot slotPts
      isplitl [Hs0]; · iexists _; iexact Hs0
      iexists _; iexact Hs1
    isplitl [H1]; · iexact H1
    isplitl [H2]; · iexists _; iexact H2
    isplitl [H3]; · iexact H3
    isplitl [H4]; · iexact H4
    isplitl [H5]; · iexact H5
    isplitl [H6]; · iexact H6
    iexists _; iexact H7
  isplitl [Hi]; · iexact Hi
  unfold Zeros
  rw [range7, range7]
  isplitl [HzB]; · iexact HzB
  isplitl [Hp]
  · iapply (Entails.of_eq (Pos_six c)); iexact Hp
  isplitl [HzS0 HzS1 HzS2 HzS3 HzS4 HzS5 HzS6]
  · isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    iexact HzS6
  isplitl [HzR0]; · iexact HzR0
  isplitl [HzR1]; · iexact HzR1
  isplitl [HzR2]; · iexact HzR2
  isplitl [HzR3]; · iexact HzR3
  isplitl [HzR4]; · iexact HzR4
  isplitl [HzR5]; · iexact HzR5
  iexact HzR6

end Cert.KernelIdeal.Run
end
-- ==== Proof.Fund.lean ====
module

public import proofs.«01_k».proof.Proof.Body

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F] [Named F]

local notation "𝕄" => MT nD τ sig ℕ (Elt F) ℕ UU ℕ

variable (B : Vals F)

/-! ## What the launch deals the devices -/

/-- The kernel's own semaphores: the credit semaphore, the send and the receive semaphores, and those of the key and
    value transfers. -/
def osem (k : Fin 19) : SemLoc sig :=
  if k.val = 0 then .reg credS else if k.val < 9 then .dma (sendS (f8 (k.val - 1)))
  else if k.val < 17 then .dma (recvS (f8 (k.val - 9))) else .dma (kvS (fin2 (k.val - 17)))

theorem ownSemFacts : Pipeline.OwnSemFacts cfg0.spec osem := by decide

/-- The semaphores no protocol uses. -/
def idle (c : Dev nD) : sProp 𝕄 :=
  iprop(semVal (sendCell c (f8 7)) 0 ∗ semVal (recvCell c (f8 7)) 0 ∗ semVal ((c : Thread nD τ), SemLoc.dma (kvS 0)) 0
    ∗ semVal ((c : Thread nD τ), SemLoc.dma (kvS 1)) 0)

theorem kcell_0 (c : Dev nD) : kcell (c, 0) = barCell c := rfl
theorem kcell_1 (c : Dev nD) : kcell (c, 1) = credCell c := rfl
theorem kcell_2 (c : Dev nD) : kcell (c, 2) = sendCell c (f8 0) := by
  unfold kcell; rw [show kc 2 = SemLoc.dma (sendS (f8 0)) from by decide]
theorem kcell_3 (c : Dev nD) : kcell (c, 3) = sendCell c (f8 1) := by
  unfold kcell; rw [show kc 3 = SemLoc.dma (sendS (f8 1)) from by decide]
theorem kcell_4 (c : Dev nD) : kcell (c, 4) = sendCell c (f8 2) := by
  unfold kcell; rw [show kc 4 = SemLoc.dma (sendS (f8 2)) from by decide]
theorem kcell_5 (c : Dev nD) : kcell (c, 5) = sendCell c (f8 3) := by
  unfold kcell; rw [show kc 5 = SemLoc.dma (sendS (f8 3)) from by decide]
theorem kcell_6 (c : Dev nD) : kcell (c, 6) = sendCell c (f8 4) := by
  unfold kcell; rw [show kc 6 = SemLoc.dma (sendS (f8 4)) from by decide]
theorem kcell_7 (c : Dev nD) : kcell (c, 7) = sendCell c (f8 5) := by
  unfold kcell; rw [show kc 7 = SemLoc.dma (sendS (f8 5)) from by decide]
theorem kcell_8 (c : Dev nD) : kcell (c, 8) = sendCell c (f8 6) := by
  unfold kcell; rw [show kc 8 = SemLoc.dma (sendS (f8 6)) from by decide]
theorem kcell_9 (c : Dev nD) : kcell (c, 9) = recvCell c (f8 0) := by
  unfold kcell; rw [show kc 9 = SemLoc.dma (recvS (f8 0)) from by decide]
theorem kcell_10 (c : Dev nD) : kcell (c, 10) = recvCell c (f8 1) := by
  unfold kcell; rw [show kc 10 = SemLoc.dma (recvS (f8 1)) from by decide]
theorem kcell_11 (c : Dev nD) : kcell (c, 11) = recvCell c (f8 2) := by
  unfold kcell; rw [show kc 11 = SemLoc.dma (recvS (f8 2)) from by decide]
theorem kcell_12 (c : Dev nD) : kcell (c, 12) = recvCell c (f8 3) := by
  unfold kcell; rw [show kc 12 = SemLoc.dma (recvS (f8 3)) from by decide]
theorem kcell_13 (c : Dev nD) : kcell (c, 13) = recvCell c (f8 4) := by
  unfold kcell; rw [show kc 13 = SemLoc.dma (recvS (f8 4)) from by decide]
theorem kcell_14 (c : Dev nD) : kcell (c, 14) = recvCell c (f8 5) := by
  unfold kcell; rw [show kc 14 = SemLoc.dma (recvS (f8 5)) from by decide]
theorem kcell_15 (c : Dev nD) : kcell (c, 15) = recvCell c (f8 6) := by
  unfold kcell; rw [show kc 15 = SemLoc.dma (recvS (f8 6)) from by decide]

omit [FloatOps F] [Named F] in
theorem big_mono {I : Type} (S : Finset I) (Φ Ψ : I → sProp 𝕄) (h : ∀ i, Φ i ⊢ Ψ i) : bigSep S Φ ⊢ bigSep S Ψ := bigSep_mono fun i _ => h i

/-- An assertion of each of a device's cells. -/
def perCell (Φ : GSem nD τ sig → sProp 𝕄) (c : Dev nD) : sProp 𝕄 :=
  iprop(Φ (barCell c) ∗ Φ (credCell c) ∗ bigSep (Finset.range 7) (fun h => Φ (sendCell c (f8 h)))
    ∗ bigSep (Finset.range 7) (fun h => Φ (recvCell c (f8 h))))

omit [FloatOps F] [Named F] in
theorem fin16_eq (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] [Named F] in
theorem fin22_eq (Φ : Fin 22 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ

omit [FloatOps F] [Named F] in
theorem perCell_intro (Φ : GSem nD τ sig → sProp 𝕄) (c : Dev nD) :
    (bigSep Finset.univ fun k : Fin 16 => Φ (kcell (c, k))) ⊢ perCell Φ c := by
  unfold perCell
  rw [fin16_eq, range7, range7]
  simp only [kcell_0, kcell_1, kcell_2, kcell_3, kcell_4, kcell_5, kcell_6, kcell_7, kcell_8, kcell_9, kcell_10, kcell_11, kcell_12, kcell_13, kcell_14, kcell_15]
  iintro ⟨HB, HC, HS0, HS1, HS2, HS3, HS4, HS5, HS6, HR0, HR1, HR2, HR3, HR4, HR5, HR6⟩
  isplitl [HB]; · iexact HB
  isplitl [HC]; · iexact HC
  isplitl [HS0 HS1 HS2 HS3 HS4 HS5 HS6]
  · isplitl [HS0]; · iexact HS0
    isplitl [HS1]; · iexact HS1
    isplitl [HS2]; · iexact HS2
    isplitl [HS3]; · iexact HS3
    isplitl [HS4]; · iexact HS4
    isplitl [HS5]; · iexact HS5
    iexact HS6
  isplitl [HR0]; · iexact HR0
  isplitl [HR1]; · iexact HR1
  isplitl [HR2]; · iexact HR2
  isplitl [HR3]; · iexact HR3
  isplitl [HR4]; · iexact HR4
  isplitl [HR5]; · iexact HR5
  iexact HR6

omit [FloatOps F] [Named F] in
theorem perCell_elim (Φ : GSem nD τ sig → sProp 𝕄) (c : Dev nD) :
    perCell Φ c ⊢ (bigSep Finset.univ fun k : Fin 16 => Φ (kcell (c, k))) := by
  unfold perCell
  rw [fin16_eq, range7, range7]
  simp only [kcell_0, kcell_1, kcell_2, kcell_3, kcell_4, kcell_5, kcell_6, kcell_7, kcell_8, kcell_9, kcell_10, kcell_11, kcell_12, kcell_13, kcell_14, kcell_15]
  iintro ⟨HB, HC, ⟨HS0, HS1, HS2, HS3, HS4, HS5, HS6⟩, ⟨HR0, HR1, HR2, HR3, HR4, HR5, HR6⟩⟩
  isplitl [HB]; · iexact HB
  isplitl [HC]; · iexact HC
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HR0]; · iexact HR0
  isplitl [HR1]; · iexact HR1
  isplitl [HR2]; · iexact HR2
  isplitl [HR3]; · iexact HR3
  isplitl [HR4]; · iexact HR4
  isplitl [HR5]; · iexact HR5
  iexact HR6

theorem osem_0 : osem 0 = SemLoc.reg credS := by decide
theorem osem_1 : osem 1 = SemLoc.dma (sendS (f8 0)) := by decide
theorem osem_2 : osem 2 = SemLoc.dma (sendS (f8 1)) := by decide
theorem osem_3 : osem 3 = SemLoc.dma (sendS (f8 2)) := by decide
theorem osem_4 : osem 4 = SemLoc.dma (sendS (f8 3)) := by decide
theorem osem_5 : osem 5 = SemLoc.dma (sendS (f8 4)) := by decide
theorem osem_6 : osem 6 = SemLoc.dma (sendS (f8 5)) := by decide
theorem osem_7 : osem 7 = SemLoc.dma (sendS (f8 6)) := by decide
theorem osem_8 : osem 8 = SemLoc.dma (sendS (f8 7)) := by decide
theorem osem_9 : osem 9 = SemLoc.dma (recvS (f8 0)) := by decide
theorem osem_10 : osem 10 = SemLoc.dma (recvS (f8 1)) := by decide
theorem osem_11 : osem 11 = SemLoc.dma (recvS (f8 2)) := by decide
theorem osem_12 : osem 12 = SemLoc.dma (recvS (f8 3)) := by decide
theorem osem_13 : osem 13 = SemLoc.dma (recvS (f8 4)) := by decide
theorem osem_14 : osem 14 = SemLoc.dma (recvS (f8 5)) := by decide
theorem osem_15 : osem 15 = SemLoc.dma (recvS (f8 6)) := by decide
theorem osem_16 : osem 16 = SemLoc.dma (recvS (f8 7)) := by decide
theorem osem_17 : osem 17 = SemLoc.dma (kvS 0) := by decide
theorem osem_18 : osem 18 = SemLoc.dma (kvS 1) := by decide
omit [FloatOps F] [Named F] in
theorem ownSems0_eq (c : Dev nD) : (Pipeline.ownSems0 (Ix := ℕ) (Name := ℕ) (U := UU) (Lvl := ℕ) (Val := Elt F) (τ := τ) osem c : sProp 𝕄)
    = iprop(semVal (credCell c) 0
      ∗ semVal (sendCell c (f8 0)) 0
      ∗ semVal (sendCell c (f8 1)) 0
      ∗ semVal (sendCell c (f8 2)) 0
      ∗ semVal (sendCell c (f8 3)) 0
      ∗ semVal (sendCell c (f8 4)) 0
      ∗ semVal (sendCell c (f8 5)) 0
      ∗ semVal (sendCell c (f8 6)) 0
      ∗ semVal (sendCell c (f8 7)) 0
      ∗ semVal (recvCell c (f8 0)) 0
      ∗ semVal (recvCell c (f8 1)) 0
      ∗ semVal (recvCell c (f8 2)) 0
      ∗ semVal (recvCell c (f8 3)) 0
      ∗ semVal (recvCell c (f8 4)) 0
      ∗ semVal (recvCell c (f8 5)) 0
      ∗ semVal (recvCell c (f8 6)) 0
      ∗ semVal (recvCell c (f8 7)) 0
      ∗ semVal ((c : Thread nD τ), SemLoc.dma (kvS 0)) 0
      ∗ semVal ((c : Thread nD τ), SemLoc.dma (kvS 1)) 0) := by
  rw [Pipeline.ownSems0_eq_of_list c osem [0, 1, 2, 3, 4, 5, 6, 7, 8, 9, 10, 11, 12, 13, 14, 15, 16, 17, 18] (by decide) (by decide)]
  show iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0) = _
  rw [osem_0, osem_1, osem_2, osem_3, osem_4, osem_5, osem_6, osem_7, osem_8, osem_9, osem_10, osem_11, osem_12, osem_13, osem_14, osem_15, osem_16, osem_17, osem_18]

omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
/-- A device's semaphores at zero: its cells' and the rest. -/
theorem sems_split (c : Dev nD) :
    iprop(Pipeline.ownSems0 (Ix := ℕ) (Name := ℕ) (U := UU) (Lvl := ℕ) (Val := Elt F) (τ := τ) osem c ∗ unscopedSems0 c)
      ⊢ (iprop(perCell (fun g => semVal g 0) c ∗ idle c) : sProp 𝕄) := by
  rw [ownSems0_eq, unscopedSems0_eq]
  unfold perCell idle
  rw [range7, range7]
  iintro ⟨⟨HC, HS0, HS1, HS2, HS3, HS4, HS5, HS6, HS7, HR0, HR1, HR2, HR3, HR4, HR5, HR6, HR7, HV0, HV1⟩, HB⟩
  isplitl [HB HC HS0 HS1 HS2 HS3 HS4 HS5 HS6 HR0 HR1 HR2 HR3 HR4 HR5 HR6]
  · isplitl [HB]; · iexact HB
    isplitl [HC]; · iexact HC
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [HR0]; · iexact HR0
    isplitl [HR1]; · iexact HR1
    isplitl [HR2]; · iexact HR2
    isplitl [HR3]; · iexact HR3
    isplitl [HR4]; · iexact HR4
    isplitl [HR5]; · iexact HR5
    iexact HR6
  isplitl [HS7]; · iexact HS7
  isplitl [HR7]; · iexact HR7
  isplitl [HV0]; · iexact HV0
  iexact HV1

omit [FloatOps F] [Named F] in
theorem sems_join (c : Dev nD) :
    iprop(perCell (fun g => semVal g 0) c ∗ idle c)
      ⊢ (iprop(Pipeline.ownSems0 (Ix := ℕ) (Name := ℕ) (U := UU) (Lvl := ℕ) (Val := Elt F) (τ := τ) osem c ∗ unscopedSems0 c) : sProp 𝕄) := by
  rw [ownSems0_eq, unscopedSems0_eq]
  unfold perCell idle
  rw [range7, range7]
  iintro ⟨⟨HB, HC, ⟨HS0, HS1, HS2, HS3, HS4, HS5, HS6⟩, ⟨HR0, HR1, HR2, HR3, HR4, HR5, HR6⟩⟩, ⟨HS7, HR7, HV0, HV1⟩⟩
  isplitl [HC HS0 HS1 HS2 HS3 HS4 HS5 HS6 HS7 HR0 HR1 HR2 HR3 HR4 HR5 HR6 HR7 HV0 HV1]
  · isplitl [HC]; · iexact HC
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HV0]; · iexact HV0
    iexact HV1
  iexact HB

/-! ### The duty tokens -/

def tk (j : Fin 22) : Fin 16 := if j.val < 2 then 0 else if j.val < 8 then 1 else ⟨(j.val - 6) % 16, Nat.mod_lt _ (by decide)⟩
def td (j : Fin 22) : ℕ := if j.val < 2 then j.val else if j.val < 8 then j.val - 1 else 0
theorem tk_td_injective : Function.Injective (fun j => (tk j, td j)) := by decide
def tokOf (p : Dev nD × Fin 22) : GSem nD τ sig × ℕ × ℕ := (kcell (p.1, tk p.2), 0, td p.2)
theorem tokOf_injective : Function.Injective tokOf := fun p q h => by
  have h1 : (p.1, tk p.2) = (q.1, tk q.2) := kcell_injective (congrArg (fun x : GSem nD τ sig × ℕ × ℕ => x.1) h)
  have h2 : td p.2 = td q.2 := congrArg (fun x : GSem nD τ sig × ℕ × ℕ => x.2.2) h
  exact Prod.ext (Prod.mk.inj h1).1 (tk_td_injective (Prod.ext (Prod.mk.inj h1).2 h2))
def ringToks : Finset (GSem nD τ sig × ℕ × ℕ) := Finset.univ.map ⟨tokOf, tokOf_injective⟩

/-- The duty tokens of device `c`'s own cells. -/
def toks (c : Dev nD) : sProp 𝕄 :=
  iprop(dutyTok ER (barCell c) 0 0 ∗ dutyTok ER (barCell c) 0 1 ∗ bigSep (Finset.Icc 1 6) (fun h => dutyTok ER (credCell c) 0 h)
    ∗ bigSep (Finset.range 7) (fun h => dutyTok ER (sendCell c (f8 h)) 0 0) ∗ bigSep (Finset.range 7) (fun h => dutyTok ER (recvCell c (f8 h)) 0 0))
/-- The duty tokens of the duties device `c` pays. -/
def payToks (c : Dev nD) : sProp 𝕄 :=
  iprop(dutyTok ER (barCell (prv c)) 0 0 ∗ dutyTok ER (barCell (nxt c)) 0 1 ∗ bigSep (Finset.Icc 1 6) (fun h => dutyTok ER (credCell (prv c)) 0 h)
    ∗ bigSep (Finset.range 7) (fun h => dutyTok ER (sendCell c (f8 h)) 0 0) ∗ bigSep (Finset.range 7) (fun h => dutyTok ER (recvCell (nxt c) (f8 h)) 0 0))

omit [FloatOps F] [Named F] in
theorem toks_intro (c : Dev nD) :
    (bigSep Finset.univ fun j : Fin 22 => (dutyTok ER (tokOf (c, j)).1 (tokOf (c, j)).2.1 (tokOf (c, j)).2.2 : sProp 𝕄)) ⊢ toks c := by
  unfold toks
  rw [fin22_eq, icc6, range7, range7]
  iintro ⟨HB, HC, HK1, HK2, HK3, HK4, HK5, HK6, HS0, HS1, HS2, HS3, HS4, HS5, HS6, HR0, HR1, HR2, HR3, HR4, HR5, HR6⟩
  isplitl [HB]; · iexact HB
  isplitl [HC]; · iexact HC
  isplitl [HK1 HK2 HK3 HK4 HK5 HK6]
  · isplitl [HK1]; · iexact HK1
    isplitl [HK2]; · iexact HK2
    isplitl [HK3]; · iexact HK3
    isplitl [HK4]; · iexact HK4
    isplitl [HK5]; · iexact HK5
    iexact HK6
  isplitl [HS0 HS1 HS2 HS3 HS4 HS5 HS6]
  · isplitl [HS0]; · iexact HS0
    isplitl [HS1]; · iexact HS1
    isplitl [HS2]; · iexact HS2
    isplitl [HS3]; · iexact HS3
    isplitl [HS4]; · iexact HS4
    isplitl [HS5]; · iexact HS5
    iexact HS6
  isplitl [HR0]; · iexact HR0
  isplitl [HR1]; · iexact HR1
  isplitl [HR2]; · iexact HR2
  isplitl [HR3]; · iexact HR3
  isplitl [HR4]; · iexact HR4
  isplitl [HR5]; · iexact HR5
  iexact HR6

omit [FloatOps F] [Named F] in
/-- The tokens dealt around the ring. -/
theorem toks_around : (bigSep Finset.univ fun c : Dev nD => (toks c : sProp 𝕄)) ⊢ bigSep Finset.univ fun c : Dev nD => payToks c := by
  unfold toks payToks
  simp only [bigSep_sep']
  rw [bigSep_univ_equiv ring.symm (fun c : Dev nD => (dutyTok ER (barCell c) 0 0 : sProp 𝕄)),
    bigSep_univ_equiv ring (fun c : Dev nD => (dutyTok ER (barCell c) 0 1 : sProp 𝕄)),
    bigSep_univ_equiv ring.symm (fun c : Dev nD => (bigSep (Finset.Icc 1 6) (fun h => dutyTok ER (credCell c) 0 h) : sProp 𝕄)),
    bigSep_univ_equiv ring (fun c : Dev nD => (bigSep (Finset.range 7) (fun h => dutyTok ER (recvCell c (f8 h)) 0 0) : sProp 𝕄))]
  exact BI.Entails.refl _

/-! ### The slots' invariants and their tokens -/

def slotRecs (ν : Dev nD × ℕ → ℕ) : sProp 𝕄 := bigSep slotKeys (fun k => Release.slotInv ES (ν k) k (slotAny k.1 (fin2 (k.2 + 1))))
omit [FloatOps F] [Named F] in
instance slotRecs_persistent (ν : Dev nD × ℕ → ℕ) : BI.Persistent (slotRecs (F := F) ν) := by unfold slotRecs; infer_instance
def slotOwn (c : Dev nD) : sProp 𝕄 :=
  iprop(bigSep (Finset.Icc 1 6) (fun h => Release.readerAt ES (c, h) 0) ∗ bigSep (Finset.Icc 1 6) (fun h => Release.writeTok ES (c, h) 1))
def slotPay (c : Dev nD) : sProp 𝕄 :=
  iprop(bigSep (Finset.Icc 1 6) (fun h => Release.readerAt ES (c, h) 0) ∗ bigSep (Finset.Icc 1 6) (fun h => Release.writeTok ES (nxt c, h) 1))

omit [FloatOps F] [Named F] in
theorem slot_around : (bigSep Finset.univ fun c : Dev nD => (slotOwn c : sProp 𝕄)) ⊢ bigSep Finset.univ fun c : Dev nD => slotPay c := by
  unfold slotOwn slotPay
  simp only [bigSep_sep']
  rw [bigSep_univ_equiv ring (fun c : Dev nD => (bigSep (Finset.Icc 1 6) (fun h => Release.writeTok ES (c, h) 1) : sProp 𝕄))]
  exact BI.Entails.refl _

omit [FloatOps F] [Named F] in
theorem prod_eq {I J : Type} [DecidableEq I] [DecidableEq J] (S : Finset I) (T : Finset J) (Φ : I × J → sProp 𝕄) :
    bigSep (S ×ˢ T) Φ = bigSep S fun i => bigSep T fun j => Φ (i, j) := by
  induction S using Finset.induction_on with
  | empty => rw [Finset.empty_product]; rfl
  | insert a S ha ih =>
    have h1 : insert a S ×ˢ T = T.map ⟨fun j => (a, j), fun x y h => (Prod.mk.inj h).2⟩ ∪ S ×ˢ T := by
      ext ⟨i, j⟩
      simp only [Finset.mem_product, Finset.mem_insert, Finset.mem_union, Finset.mem_map, Function.Embedding.coeFn_mk]
      constructor
      · rintro ⟨h | h, hj⟩
        · exact Or.inl ⟨j, hj, Prod.ext h.symm rfl⟩
        · exact Or.inr ⟨h, hj⟩
      · rintro (⟨k, hk, h⟩ | ⟨h, hj⟩)
        · cases h; exact ⟨Or.inl rfl, hk⟩
        · exact ⟨Or.inr h, hj⟩
    have h2 : Disjoint (T.map ⟨fun j => (a, j), fun x y h => (Prod.mk.inj h).2⟩) (S ×ˢ T) := by
      rw [Finset.disjoint_left]
      rintro ⟨i, j⟩ hx hy
      obtain ⟨k, _, hk⟩ := Finset.mem_map.mp hx
      exact ha ((Prod.mk.inj hk).1 ▸ (Finset.mem_product.mp hy).1)
    rw [h1, bigSep_union h2, bigSep_map, bigSep_insert ha, ih]; rfl

omit [FloatOps F] [Named F] in
theorem fund_slots : BI.own (ES (Release.initSlots slotKeys 1))
    ⊢ (|={Set.univ}=> iprop((∃ ν, slotRecs ν) ∗ bigSep Finset.univ fun c : Dev nD => slotOwn c) : sProp 𝕄) := by
  iintro H
  imod (Release.slots_init (Es := Set.univ) ES slotKeys 1 (fun k : Dev nD × ℕ => slotAny (F := F) k.1 (fin2 (k.2 + 1)))) $$ H with ⟨%ν, -, HI, HR, HW⟩
  imodintro
  isplitl [HI]; · iexists ν; unfold slotRecs slotKeys; iexact HI
  unfold slotOwn
  simp only [bigSep_sep']
  unfold slotKeys
  ihave HR := (Entails.of_eq (prod_eq Finset.univ (Finset.Icc 1 6) (fun k : Dev nD × ℕ => (Release.readerAt ES k 0 : sProp 𝕄)))) $$ HR
  ihave HW := (Entails.of_eq (prod_eq (Finset.univ ×ˢ Finset.Icc 1 6) (Finset.range 1) (fun x : (Dev nD × ℕ) × ℕ => (Release.writeTok ES x.1 (x.2 + 1) : sProp 𝕄)))) $$ HW
  isplitl [HR]; · iexact HR
  have e : (bigSep (Finset.univ ×ˢ Finset.Icc 1 6) fun i => bigSep (Finset.range 1) fun j => (Release.writeTok ES i (j + 1) : sProp 𝕄))
      = bigSep Finset.univ fun c : Dev nD => bigSep (Finset.Icc 1 6) fun h => Release.writeTok ES (c, h) 1 := by
    rw [bigSep_congr (fun i _ => show bigSep (Finset.range 1) (fun j => (Release.writeTok ES i (j + 1) : sProp 𝕄)) = Release.writeTok ES i 1 from by
      rw [Finset.range_one, bigSep_singleton])]
    exact prod_eq Finset.univ (Finset.Icc 1 6) (fun k : Dev nD × ℕ => (Release.writeTok ES k 1 : sProp 𝕄))
  iapply (Entails.of_eq e); iexact HW

/-! ### The launch element -/

def u₀ : UU :=
  (initOf (Pipeline.cells cfgs cellOf_inj) (Pipeline.launchToks cfgs cellOf_inj), (initOf ringCells ringToks, (Release.initSlots slotKeys 1, 1)))

/-- What the launch element deals device `c`. -/
def G (c : Dev nD) : sProp 𝕄 :=
  iprop((bigSep Finset.univ fun k : Fin 16 => roundState ER (rd B) (kcell (c, k)) 0)
    ∗ (bigSep Finset.univ fun k : Fin 16 => atPos ER (kcell (c, k)) 0 ∅ 0) ∗ (bigSep Finset.univ fun k : Fin 16 => reached ER (kcell (c, k)) 0)
    ∗ toks c ∗ (∃ ν, slotRecs ν) ∗ slotOwn c)

omit [FloatOps F] [Named F] in
theorem cells_eq (Φ : GSem nD τ sig → sProp 𝕄) :
    bigSep ringCells Φ = bigSep Finset.univ fun c : Dev nD => bigSep Finset.univ fun k : Fin 16 => Φ (kcell (c, k)) := by
  unfold ringCells; rw [bigSep_map, bigSep_univ_prod]; rfl

theorem fund_ring : BI.own (ER (initOf ringCells ringToks))
    ⊢ (|==> iprop((bigSep Finset.univ fun c : Dev nD => bigSep Finset.univ fun k : Fin 16 => roundState ER (rd B) (kcell (c, k)) 0)
      ∗ (bigSep Finset.univ fun c : Dev nD => bigSep Finset.univ fun k : Fin 16 => atPos ER (kcell (c, k)) 0 ∅ 0)
      ∗ (bigSep Finset.univ fun c : Dev nD => bigSep Finset.univ fun k : Fin 16 => reached ER (kcell (c, k)) 0)
      ∗ bigSep Finset.univ fun c : Dev nD => toks c) : sProp 𝕄) := by
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (rd B) ringCells ringToks) $$ HX with ⟨Hst, Hr, Hat, Htok⟩
  imodintro
  ihave Hst := (Entails.of_eq (cells_eq fun g => roundState ER (rd B) g 0)) $$ Hst
  ihave Hat := (Entails.of_eq (cells_eq fun g => (atPos ER g 0 ∅ 0 : sProp 𝕄))) $$ Hat
  ihave Hr := (Entails.of_eq (cells_eq fun g => (reached ER g 0 : sProp 𝕄))) $$ Hr
  ihave Htok := hT $$ Htok
  isplitl [Hst]; · iexact Hst
  isplitl [Hat]; · iexact Hat
  isplitl [Hr]; · iexact Hr
  iexact Htok

theorem fund_all : (ownU u₀ : sProp 𝕄)
    ⊢ |={Set.univ}=> iprop(BI.own (EP (initOf (Pipeline.cells cfgs cellOf_inj) (Pipeline.launchToks cfgs cellOf_inj))) ∗ bigSep Finset.univ (G B)) := by
  unfold u₀
  iintro Hu
  ihave H := (ownU_pair _ _) $$ Hu
  icases H with ⟨HP, HX⟩
  ihave H := (own_pair_emb embR (initOf ringCells ringToks) (Release.initSlots slotKeys 1, (1 : Counters))) $$ HX
  icases H with ⟨HX, HY⟩
  ihave H := (own_pair_emb (Emb.inr.trans embR) (Release.initSlots slotKeys 1) (1 : Counters)) $$ HY
  icases H with ⟨HS, -⟩
  ihave HX := (Entails.of_eq (show (BI.own ((Emb.inl.trans embR : Emb UC 𝕄) (initOf ringCells ringToks)) : sProp 𝕄) = BI.own (ER (initOf ringCells ringToks)) from rfl)) $$ HX
  ihave HS := (Entails.of_eq (show (BI.own ((Emb.inl.trans (Emb.inr.trans embR) : Emb US 𝕄) (Release.initSlots slotKeys 1)) : sProp 𝕄) = BI.own (ES (Release.initSlots slotKeys 1)) from rfl)) $$ HS
  imod (fund_ring B) $$ HX with ⟨Hst, Hat, Hr, Htok⟩
  imod (fund_slots (F := F)) $$ HS with ⟨#HI, HS⟩
  imodintro
  isplitl [HP]; · iexact HP
  unfold G
  simp only [bigSep_sep']
  isplitl [Hst]; · iexact Hst
  isplitl [Hat]; · iexact Hat
  isplitl [Hr]; · iexact Hr
  isplitl [Htok]; · iexact Htok
  isplitr; · iapply (BI.bigSep_of_persistent Finset.univ (iprop(∃ ν, slotRecs (F := F) ν))); iexact HI
  iexact HS

/-! ### The invariants, and the tokens dealt -/

def cellRecs (κ : GSem nD τ sig → ℕ) : sProp 𝕄 := bigSep ringCells (fun g => iprop(cellInv ER (rd B) (κ g) g ∗ reached ER g 0))
instance cellRecs_persistent (κ : GSem nD τ sig → ℕ) : BI.Persistent (cellRecs B κ) := by unfold cellRecs; infer_instance

/-- What stays with device `c`: its positions, the tokens it pays with, its slots' tokens, the idle semaphores. -/
def own (c : Dev nD) : sProp 𝕄 :=
  iprop(perCell (fun g => atPos ER g 0 ∅ 0) c ∗ payToks c ∗ slotPay c ∗ idle c)
def G' (c : Dev nD) : sProp 𝕄 := iprop((∃ κ, cellRecs B κ) ∗ (∃ ν, slotRecs ν) ∗ own c)

theorem core_alloc (c : Dev nD) :
    iprop(Pipeline.ownSems0 (Ix := ℕ) (Name := ℕ) (U := UU) (Lvl := ℕ) (Val := Elt F) (τ := τ) osem c ∗ unscopedSems0 c ∗ G B c)
      ⊢ |={Set.univ}=> iprop((bigSep Finset.univ fun k : Fin 16 => iprop(∃ κ : ℕ, cellInv ER (rd B) κ (kcell (c, k))))
          ∗ (bigSep Finset.univ fun k : Fin 16 => atPos ER (kcell (c, k)) 0 ∅ 0) ∗ (bigSep Finset.univ fun k : Fin 16 => reached ER (kcell (c, k)) 0)
          ∗ toks c ∗ (∃ ν, slotRecs ν) ∗ slotOwn c ∗ idle c) := by
  unfold G
  iintro ⟨Hos, Hus, Hst, Hat, Hr, Htok, HI, HS⟩
  ihave Hv := (sems_split (F := F) c) $$ [Hos Hus]
  · isplitl [Hos] <;> iassumption
  icases Hv with ⟨Hv, Hid⟩
  ihave Hv := (perCell_elim (fun g => (semVal g 0 : sProp 𝕄)) c) $$ Hv
  imod (show iprop((bigSep Finset.univ fun k : Fin 16 => semVal (kcell (c, k)) 0) ∗ bigSep Finset.univ fun k : Fin 16 => roundState ER (rd B) (kcell (c, k)) 0)
      ⊢ (|={Set.univ}=> bigSep Finset.univ fun k => iprop(∃ κ : ℕ, cellInv ER (rd B) κ (kcell (c, k))) : sProp 𝕄) from by
        rw [← bigSep_sep']
        exact (bigSep_mono fun k _ => (Rounds.body_intro ER (rd B) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  isplitl [HI]; · iexact HI
  isplitl [HS]; · iexact HS
  iexact Hid

theorem regroup :
    (bigSep Finset.univ fun c : Dev nD => iprop((bigSep Finset.univ fun k : Fin 16 => iprop(∃ κ : ℕ, cellInv ER (rd B) κ (kcell (c, k))))
          ∗ (bigSep Finset.univ fun k : Fin 16 => atPos ER (kcell (c, k)) 0 ∅ 0) ∗ (bigSep Finset.univ fun k : Fin 16 => reached ER (kcell (c, k)) 0)
          ∗ toks c ∗ (∃ ν, slotRecs ν) ∗ slotOwn c ∗ idle c) : sProp 𝕄)
      ⊢ bigSep Finset.univ (G' B) := by
  simp only [bigSep_sep']
  iintro ⟨HI, Hat, Hr, Htok, HJ, HS, Hid⟩
  ihave HI := (Entails.of_eq (cells_eq fun g => (iprop(∃ κ : ℕ, cellInv ER (rd B) κ g) : sProp 𝕄)).symm) $$ HI
  ihave HK := (BI.bigSep_exists_pi ringCells (fun (g : GSem nD τ sig) (κ : ℕ) => (cellInv ER (rd B) κ g : sProp 𝕄))) $$ HI
  icases HK with ⟨%κ, #HI⟩
  ihave Hr := (Entails.of_eq (cells_eq fun g => (reached ER g 0 : sProp 𝕄)).symm) $$ Hr
  icases Hr with #Hr
  ihave Htk := (toks_around (F := F)) $$ Htok
  ihave HS := (slot_around (F := F)) $$ HS
  ihave Hat := (big_mono (F := F) Finset.univ _ _ fun c : Dev nD => perCell_intro (fun g => (atPos ER g 0 ∅ 0 : sProp 𝕄)) c) $$ Hat
  unfold G' own
  simp only [bigSep_sep']
  isplitr
  · iapply (BI.bigSep_of_persistent Finset.univ (iprop(∃ κ, cellRecs B κ)))
    iexists κ
    unfold cellRecs
    rw [bigSep_sep']
    isplitl; · iexact HI
    iexact Hr
  isplitl [HJ]; · iexact HJ
  isplitl [Hat]; · iexact Hat
  isplitl [Htk]; · iexact Htk
  isplitl [HS]; · iexact HS
  iexact Hid

/-- The global step: every device's semaphores at once. -/
theorem glob : (bigSep Finset.univ fun c => iprop(Pipeline.ownSems0 (Ix := ℕ) (Name := ℕ) (U := UU) (Lvl := ℕ) (Val := Elt F) (τ := τ) osem c ∗ unscopedSems0 c ∗ G B c) : sProp 𝕄)
    ⊢ |={Set.univ}=> bigSep Finset.univ (G' B) :=
  ((bigSep_mono fun c _ => core_alloc B c).trans (bigSep_fupd _ _)).trans (BI.fupd_mono (regroup B))

/-! ### The launch credit -/

omit [FloatOps F] [Named F] in
theorem creds (c : Dev nD) :
    (Pipeline.launchCred o₀ c : sProp 𝕄) ⊢ iprop(cred (tallyAt (barCell c) 0 2)
      ∗ bigSep (Finset.range 7) (fun h => cred (tallyAt (recvCell c (f8 h)) 0 N)) ∗ bigSep (Finset.Icc 1 6) (fun h => cred (tallyAt (credCell c) h 1))) := by
  have e : (o₀ : Dev nD → CellTallies nD τ sig ℕ) = fun d => ((∑ i ∈ Finset.range 7, owS d i) + ∑ i ∈ Finset.Icc 1 6, owC d i)
      + tallyAt (barCell (nxt d)) 0 1 + tallyAt (barCell (prv d)) 0 1 := funext fun d => by
    unfold o₀ o₁ oAt; rw [Finset.range_eq_Ico]; rfl
  rw [e, Pipeline.launchCred_add, Pipeline.launchCred_add, Pipeline.launchCred_add, Pipeline.launchCred_sum, Pipeline.launchCred_sum]
  have hb : iprop(cred (tallyAt (barCell c) 0 1) ∗ cred (tallyAt (barCell c) 0 1)) ⊢ (cred (tallyAt (barCell c) 0 2) : sProp 𝕄) := by
    rw [show (tallyAt (barCell c) 0 2 : CellTallies nD τ sig ℕ) = tallyAt (barCell c) 0 1 + tallyAt (barCell c) 0 1 from (tallyAt_add (barCell c) 0 1 1).symm]
    exact (cred_add _ _).2
  iintro ⟨⟨⟨HS, HC⟩, HN⟩, HP⟩
  ihave HN := (Pipeline.launchCred_tallyAt (SemLoc.reg barS) nxt prv nxt_prv prv_nxt 0 1 c) $$ HN
  ihave HP := (Pipeline.launchCred_tallyAt (SemLoc.reg barS) prv nxt prv_nxt nxt_prv 0 1 c) $$ HP
  isplitl [HN HP]
  · iapply hb; isplitl [HN]; · iexact HN
    iexact HP
  isplitl [HS]
  · iapply (big_mono (F := F) (Finset.range 7) _ _ fun h => Pipeline.launchCred_tallyAt (SemLoc.dma (recvS (f8 h))) nxt prv nxt_prv prv_nxt 0 N c); iexact HS
  iapply (big_mono (F := F) (Finset.Icc 1 6) _ _ fun h : ℕ => Pipeline.launchCred_tallyAt (SemLoc.reg credS) prv nxt prv_nxt nxt_prv h 1 c); iexact HC

omit [FloatOps F] [Named F] in
/-- The tokens and credits as the body takes them. -/
theorem toks_of (c : Dev nD) :
    iprop((perCell (fun g => atPos ER g 0 ∅ 0) c ∗ payToks c ∗ slotPay c)
      ∗ cred (tallyAt (barCell c) 0 2) ∗ bigSep (Finset.range 7) (fun h => cred (tallyAt (recvCell c (f8 h)) 0 N))
      ∗ bigSep (Finset.Icc 1 6) (fun h => cred (tallyAt (credCell c) h 1)))
    ⊢ (Toks (F := F) c : sProp 𝕄) := by
  unfold perCell payToks slotPay Toks sendTok recvTok waitTok creditTok
  simp only [bigSep_sep']
  iintro ⟨⟨⟨HaB, HaC, HaS, HaR⟩, ⟨HB0, HB1, HtC, HtS, HtR⟩, ⟨Hrd, Hwt⟩⟩, HcB, HcR, HcC⟩
  isplitl [HB0]; · iexact HB0
  isplitl [HB1]; · iexact HB1
  isplitl [HcB]; · iexact HcB
  isplitl [HaB]; · iexact HaB
  isplitl [HaC]; · iexact HaC
  isplitl [HtS HtR HaS]
  · isplitl [HtS]; · iexact HtS
    isplitl [HtR]; · iexact HtR
    iexact HaS
  isplitl [HcR HaR]
  · isplitl [HcR]; · iexact HcR
    iexact HaR
  isplitl [HcC Hwt]
  · isplitl [HcC]; · iexact HcC
    iexact Hwt
  isplitl [Hrd]; · iexact Hrd
  iexact HtC

end Cert.KernelIdeal.Run
end
-- ==== Proof.Launch.lean ====
module

public import proofs.«01_k».proof.Proof.Fund
public import proofs.«01_k».proof.Proof.Gen.KernelIdeal.Points
public import Idealize.ShloMosaic.Lib.Pipeline.CollectiveSegs
public import Idealize.ShloMosaic.Lib.Pipeline.Value
public import Idealize.ShloMosaic.Lib.Pipeline.Launch

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F] [Named F]

local notation "𝕄" => MT nD τ sig ℕ (Elt F) ℕ UU ℕ

variable (B : Vals F)

variable (m : (ℓ : Loc nD τ sig) → Buf (Elt F) ℓ) (ρ : Dev nD → PrngReg)

/-! ## The region's proof data -/

/-- What the devices' arguments hold. -/
def valsOf : Vals F where
  x c := m ((c : Thread nD τ).loc main_arg0)
  wq c := m ((c : Thread nD τ).loc main_arg1)
  wo c := m ((c : Thread nD τ).loc main_arg4)
  kk c := m ((c : Thread nD τ).loc main_arg2)
  vv c := m ((c : Thread nD τ).loc main_arg3)

/-- What device `c`'s body starts from besides its buffers. -/
def start (c : Dev nD) : sProp 𝕄 :=
  iprop((∃ κ ν, Ctx B κ ν) ∗ Toks c ∗ fetchIdle B c ∗ semVal (sendCell c (f8 7)) 0 ∗ semVal (recvCell c (f8 7)) 0)
def Φ₀ (c : Dev nD) : sProp 𝕄 := iprop(start B c ∗ Bufs c)
def Φ₁ (c : Dev nD) : sProp 𝕄 :=
  iprop(Bufs c ∗ fetchIdle B c ∗ Zeros c ∗ semVal (sendCell c (f8 7)) 0 ∗ semVal (recvCell c (f8 7)) 0)

def dats (_ : Fin 1) (c : Dev nD) : Dat τ (Elt F) ℕ ℕ UU ℕ cfg0 c where
  A w := m ((cfg0.win w).arr.view.loc (c : Thread nD τ))
  after w _ := match w with
    | ⟨0, _⟩ => (valsOf m).x c
    | ⟨1, _⟩ => (valsOf m).wq c
    | ⟨2, _⟩ => (valsOf m).wo c
    | ⟨3, _⟩ => acc (valsOf m) c 8
  Φ t := match t with
    | ⟨0, _⟩ => Φ₀ (valsOf m) c
    | ⟨_ + 1, _⟩ => Φ₁ (valsOf m) c
  q _ := fullShare
  owed t := match t with
    | ⟨0, _⟩ => o₀ c
    | ⟨_ + 1, _⟩ => 0

omit [FloatOps F] [Named F] in
/-- A window's one block is its whole array. -/
theorem blk_0 (t : Fin cfg0.N) (f : Vec F S1x1024x1024 .f32) : (win0_0.blk t).view.read (Elt F) f = f :=
  funext fun i => congrArg f (funext fun a => Fin.ext (by show 0 * _ + 1 * (i a).val = (i a).val; omega))
omit [FloatOps F] [Named F] in
theorem blk_1 (t : Fin cfg0.N) (f : Vec F S1024x1024 .f32) : (win0_1.blk t).view.read (Elt F) f = f :=
  funext fun i => congrArg f (funext fun a => Fin.ext (by show 0 * _ + 1 * (i a).val = (i a).val; omega))
omit [FloatOps F] [Named F] in
theorem blk_2 (t : Fin cfg0.N) (f : Vec F S1024x1024 .f32) : (win0_2.blk t).view.read (Elt F) f = f :=
  funext fun i => congrArg f (funext fun a => Fin.ext (by show 0 * _ + 1 * (i a).val = (i a).val; omega))
omit [FloatOps F] [Named F] in
theorem blk_3 (t : Fin cfg0.N) (f : Vec F S1x1024x1024 .f32) : (win0_3.blk t).view.read (Elt F) f = f :=
  funext fun i => congrArg f (funext fun a => Fin.ext (by show 0 * _ + 1 * (i a).val = (i a).val; omega))

theorem before_0 (c : Dev nD) (d) : (dats m 0 c).before (0 : Fin 4) t0_0 d = (valsOf m).x c := by
  unfold Dat.before; rw [if_pos (fetch0_0 t0_0)]; exact (show (dats m 0 c).fetched (0 : Fin 4) t0_0 d = (win0_0.blk t0_0).view.read (Elt F) ((valsOf m).x c) from rfl).trans (blk_0 t0_0 _)
theorem before_1 (c : Dev nD) (d) : (dats m 0 c).before (1 : Fin 4) t0_0 d = (valsOf m).wq c := by
  unfold Dat.before; rw [if_pos (fetch0_1 t0_0)]; exact (show (dats m 0 c).fetched (1 : Fin 4) t0_0 d = (win0_1.blk t0_0).view.read (Elt F) ((valsOf m).wq c) from rfl).trans (blk_1 t0_0 _)
theorem before_2 (c : Dev nD) (d) : (dats m 0 c).before (2 : Fin 4) t0_0 d = (valsOf m).wo c := by
  unfold Dat.before; rw [if_pos (fetch0_2 t0_0)]; exact (show (dats m 0 c).fetched (2 : Fin 4) t0_0 d = (win0_2.blk t0_0).view.read (Elt F) ((valsOf m).wo c) from rfl).trans (blk_2 t0_0 _)

omit [FloatOps F] [Named F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] [Named F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

set_option maxRecDepth 4000 in
def bodyPre (c : Dev nD) : sProp 𝕄 :=
  iprop(Φ₀ (valsOf m) c ∗ (dats m 0 c).owesAt 0 t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
set_option maxRecDepth 4000 in
def bodyPost (c : Dev nD) : sProp 𝕄 :=
  iprop(Φ₁ (valsOf m) c ∗ (dats m 0 c).owesAt 0 t0_0.succ
    ∗ stg c cc0_stg0_0 ((valsOf m).x c) ∗ stg c cc0_stg1_0 ((valsOf m).wq c) ∗ stg c cc0_stg2_0 ((valsOf m).wo c)
    ∗ stg c cc0_stg3_0 (acc (valsOf m) c 8))

theorem body_sound (c : Dev nD) : bodyPre m c ⊢ WP (F := F) c (bodyAt0 t0_0) (fun _ => bodyPost m c) := by
  rw [body_eq]
  unfold bodyPre Φ₀ start
  iintro ⟨⟨⟨⟨%κ, %ν, #HC⟩, Ht, Hi, H7, H7'⟩, HB⟩, Ho, ⟨%d0, %g0, %hg0, Hx⟩, ⟨%d1, %g1, %hg1, Hq⟩, ⟨%d2, %g2, %hg2, Hw⟩, ⟨%d3, %g3, %hg3, Hr⟩⟩
  rw [before_0] at hg0
  rw [before_1] at hg1
  rw [before_2] at hg2
  subst hg0 hg1 hg2
  unfold Dat.owesAt Pipeline.owesWithin
  icases Ho with ⟨%W, %hW, HO⟩
  rw [show (dats m 0 c).owed t0_0.castSucc = o₀ c from rfl]
  iapply (wp_wand_r _ _ _)
  isplitl [HO Ht Hi HB Hx Hq Hw Hr]
  · iapply (body_wp (valsOf m) κ ν c)
    isplitr; · iexact HC
    isplitl [HO]; · unfold Ow; iexists W; iexact HO
    isplitl [Ht]; · iexact Ht
    isplitl [Hx Hq Hw]
    · unfold Staged
      isplitl [Hx]; · iexact Hx
      isplitl [Hq]; · iexact Hq
      iexact Hw
    isplitl [Hr]; · iexists g3; iexact Hr
    isplitl [HB]; · iexact HB
    iexact Hi
  iintro %_ ⟨HO, HS, Hr, HB, Hi, HZ⟩
  unfold Ow Staged bodyPost Φ₁ Dat.owesAt Pipeline.owesWithin
  icases HO with ⟨%W', HO⟩
  icases HS with ⟨Hx, Hq, Hw⟩
  rw [show (dats m 0 c).owed t0_0.succ = 0 from rfl]
  isplitl [HB Hi HZ H7 H7']
  · isplitl [HB]; · iexact HB
    isplitl [Hi]; · iexact Hi
    isplitl [HZ]; · iexact HZ
    isplitl [H7]; · iexact H7
    iexact H7'
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Hr

set_option maxRecDepth 4000 in
/-- The body obligation on core `c`. -/
theorem body_obligation (c : Dev nD) : BodyObligation (dats (F := F) m 0 c) (defs₀ (F := F)) 𝒱₀ 0 Set.univ := fun t => by
  rw [fin_N0 t]
  rw [bigSep_W, bigSep_W]
  simp only [owns_whole_eq]
  exact body_sound m c

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred o₀ c ∗ prngReg c (ρ c) ∗ G' (valsOf m) c)
      ⊢ |={Set.univ}=> iprop(start (valsOf m) c ∗ emp) := by
  rw [Pipeline.unscopedRestP_none, unscopedRest0_eq]
  unfold G' own idle
  iintro ⟨⟨HK, HV⟩, #Hlev, Hcr, -, ⟨%κ, #Hc⟩, ⟨%ν, #Hs⟩, Hp, Ht, Hsl, H7, H7', Hk0, Hk1⟩
  ihave Hcr := (creds (F := F) c) $$ Hcr
  icases Hcr with ⟨Hc1, Hc2, Hc3⟩
  imodintro
  unfold start fetchIdle
  isplitl
  · isplitr
    · iexists κ; iexists ν
      unfold Ctx
      isplitr; · (iapply (Entails.of_eq (show cellRecs (valsOf m) κ = bigSep ringCells (fun g => iprop(cellInv ER (rd (valsOf m)) (κ g) g ∗ reached ER g 0)) from rfl)); iexact Hc)
      isplitr; · (iapply (Entails.of_eq (show slotRecs (F := F) ν = bigSep slotKeys (fun k => Release.slotInv ES (ν k) k (slotAny k.1 (fin2 (k.2 + 1)))) from rfl)); iexact Hs)
      iexact Hlev
    isplitl [Hp Ht Hsl Hc1 Hc2 Hc3]
    · iapply (toks_of c)
      isplitl [Hp Ht Hsl]
      · isplitl [Hp]; · iexact Hp
        isplitl [Ht]; · iexact Ht
        iexact Hsl
      isplitl [Hc1]; · iexact Hc1
      isplitl [Hc2]; · iexact Hc2
      iexact Hc3
    isplitl [HK HV Hk0 Hk1]
    · isplitl [HK]; · iexact HK
      isplitl [HV]; · iexact HV
      isplitl [Hk0]; · iexact Hk0
      iexact Hk1
    isplitl [H7]; · iexact H7
    iexact H7'
  · iempintro

theorem phi0_intro (c : Dev nD) :
    iprop(start (valsOf m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (valsOf m) c from rfl, scopedRest0_eq]
  unfold Φ₀ Bufs
  iintro ⟨Hs, -, Hr⟩
  isplitl [Hs]; · iexact Hs
  iexact Hr

/-- What the end keeps for the reading of the final memory. -/
def fin (c : Dev nD) : sProp 𝕄 := iprop(unscopedSems0 c ∗ pW c main_arg2 ((valsOf m).kk c) ∗ pW c main_arg3 ((valsOf m).vv c))

theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ (valsOf m) c from rfl, scopedRest0_eq]
  unfold Φ₁ Bufs fetchIdle Zeros fin
  iintro ⟨HB, ⟨HK, HV, Hk0, Hk1⟩, HZ, H7, H7'⟩
  ihave Hs := (sems_join (F := F) c) $$ [HZ Hk0 Hk1 H7 H7']
  · unfold perCell idle
    isplitl [HZ]; · iexact HZ
    isplitl [H7]; · iexact H7
    isplitl [H7']; · iexact H7'
    isplitl [Hk0]; · iexact Hk0
    iexact Hk1
  icases Hs with ⟨Ho, Hu⟩
  isplitl [Hu HK HV]
  · isplitl [Hu]; · iexact Hu
    isplitl [HK]; · iexact HK
    iexact HV
  isplitl [Ho]; · iexact Ho
  iexact HB

theorem waits (c : Dev nD) : (levAts L lv : sProp 𝕄) ⊢ Pipeline.cellsWaits cfgs (dats m) 0 0 c :=
  Pipeline.cellsWaits_intro cfgs (dats m) 0 0 c fun w s t => by
    refine mayWait_of c _ 0 0 (by decide) (Nat.le_of_eq (lv_low c _ (by fin_cases w <;> fin_cases s <;> decide) 0)) _ ?_
    rcases t with ⟨_ | _, ht⟩
    · exact fun g u hg => lv_o₀ hg
    · exact fun g u hg => absurd hg (Nat.lt_irrefl 0)

/-! ## The run -/

/-- The final memory on device `c`: every window's array as computed, the rest as at the start, the unscoped
    semaphores at zero. -/
def QY (c : Dev nD) (s : MemSt nD τ sig (Elt F)) : Prop :=
  s.mem ((c : Thread nD τ).loc main_arg2) = (valsOf m).kk c ∧ s.mem ((c : Thread nD τ).loc main_arg3) = (valsOf m).vv c
    ∧ ∀ sm : SemLoc sig, sm.isScoped .tc = false → s.sem ((c.tc : Thread nD τ), sm) = 0

omit [FloatOps F] [Named F] in
theorem read_whole (c : Dev nD) (b : Ref sig .tc) (f : Buf (Elt F) ((c : Thread nD τ).loc b)) (s' : Phys nD τ sig (Elt F)) :
    iprop(pW c b f ∗ SI s') ⊢ (⌜s'.mem.mem ((c : Thread nD τ).loc b) = f⌝ : sProp 𝕄) := by
  iintro ⟨H, HSI⟩
  icombine HSI H gives %h
  ipureintro
  exact Buf.eq_of_forall_mem_univ h

theorem fin_read (c : Dev nD) (s' : Phys nD τ sig (Elt F)) :
    iprop(fin m c ∗ emp ∗ SI s') ⊢ |={Set.univ}=> iprop(⌜QY m c s'.mem⌝ ∗ SI s') := by
  unfold fin
  iintro ⟨⟨Hu, HK, HV⟩, -, HSI⟩
  ihave %h1 := (read_whole c main_arg2 _ s') $$ [HK HSI]
  · isplitl [HK] <;> iassumption
  ihave %h2 := (read_whole c main_arg3 _ s') $$ [HV HSI]
  · isplitl [HV] <;> iassumption
  imod (Pipeline.unscopedSems0_read (X := unscopedSems0 c) (c := c) fupd_intro s') $$ [Hu HSI] with ⟨%h3, HSI⟩
  · isplitl [Hu] <;> iassumption
  imodintro
  isplitr; · ipureintro; exact ⟨h1, h2, h3⟩
  iexact HSI

def finalA (c : Dev nD) (w : Fin cfg0.W) : Buf (Elt F) ((cfg0.win w).arr.view.loc (c : Thread nD τ)) := (dats m 0 c).arrAt w cfg0.N

/-- The final memory: the result the sum over the ring, the arguments as they were. -/
def QC (s : MemSt nD τ sig (Elt F)) : Prop :=
  ∀ c : Dev nD, (∀ w : Fin cfg0.W, s.mem ((cfg0.win w).arr.view.loc (c : Thread nD τ)) = finalA m c w) ∧ QY m c s

set_option maxRecDepth 8000 in
/-- From any memory with zero counters, every weakly fair execution of the program terminates with the arrays as
    computed and every semaphore at zero. -/
theorem run_main : θ_run defs (onTc (τ := τ) (main (F := F))) ⟨m, fun _ => 0, ρ⟩ (fun r => QC m r.2 ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := o₀) (howed₀ := fun _ => rfl) (howedN := fun _ => rfl)
    (L := L) (lv := lv) (hL := L_of_ne) (hwaits := waits m)
    (G := G (valsOf m)) (G' := G' (valsOf m)) (u₀ := u₀)
    (hu₀ := fund_all (valsOf m))
    (hglob := glob (valsOf m))
    (hA := fun _ _ => rfl) (hpf := fun _ k => k.elim0)
    (X := start (valsOf m)) (Y := fin m) (Z := fun _ => iprop(emp))
    (hX := start_intro m ρ) (hin := phi0_intro m) (hout := phi1_exit m)
    (QY := QY m) (hY := fin_read m)
    (hQ := fun _ h hs => ⟨fun c => ⟨fun w => (h c).1 w, (h c).2.2⟩, sem_eq_zero hs fun c => (h c).2.2.2.2⟩)

/-! ## The contents at the end -/

theorem final_0 (c : Dev nD) : finalA m c (0 : Fin 4) = m ((c : Thread nD τ).loc main_arg0) := (dats m 0 c).arrAt_in (0 : Fin 4) rfl _
theorem final_1 (c : Dev nD) : finalA m c (1 : Fin 4) = m ((c : Thread nD τ).loc main_arg1) := (dats m 0 c).arrAt_in (1 : Fin 4) rfl _
theorem final_2 (c : Dev nD) : finalA m c (2 : Fin 4) = m ((c : Thread nD τ).loc main_arg4) := (dats m 0 c).arrAt_in (2 : Fin 4) rfl _

theorem cover_3 (i : S1x1024x1024.Idx) : ∃ t : Fin cfg0.N, (cfg0.win 3).flush t = true ∧ i ∈ ((cfg0.win 3).blk t).view.set := by
  refine ⟨t0_0, flush0_3 _, ?_⟩
  show i ∈ ((View.whole main_v1).slice (win0_3.rect t0_0)).set
  rw [View.set_slice_whole, Rect.mem_set_unit]
  intro a
  show 0 * S1x1024x1024.size a ≤ (i a : Nat) ∧ (i a : Nat) < 0 * S1x1024x1024.size a + S1x1024x1024.size a
  have := (i a).isLt
  omega

theorem final_3 (c : Dev nD) : finalA m c (3 : Fin 4) = acc (valsOf m) c 8 :=
  (dats m 0 c).arrAt_eq_of_cover (3 : Fin 4) (acc (valsOf m) c 8) (fun t _ => (blk_3 t _).symm) cover_3

/-- Arguments unchanged, semaphores at zero, the result the sum over the ring. -/
theorem run_values : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v1) = acc (valsOf m) c 8) ∧ r.2.sem = fun _ => 0) :=
  (θ_run defs _ _).mono (fun r h => ⟨fun c => ⟨((h.1 c).1 (0 : Fin 4)).trans (final_0 m c), ((h.1 c).1 (1 : Fin 4)).trans (final_1 m c),
    (h.1 c).2.1, (h.1 c).2.2.1, ((h.1 c).1 (2 : Fin 4)).trans (final_2 m c), ((h.1 c).1 (3 : Fin 4)).trans (final_3 m c)⟩, h.2⟩) (run_main m ρ)

end Cert.KernelIdeal.Run
end
-- ==== Proof.RefValue.lean ====
module

public import proofs.«01_k».proof.Proof.Gen.ReferenceIdeal.Run
public import Idealize.ShloMosaic.Lib.Pointwise
public import Idealize.ShloMosaic.Lib.Routing.OpsOrder

@[expose] public section

set_option maxRecDepth 16384

noncomputable section

namespace Cert.ReferenceIdeal.Run

open Cert.ReferenceIdeal Cert.ReferenceIdeal.Gen Cert.ReferenceIdeal.Value
open Idealize.ShloMosaic Idealize.ShloMosaic.TcCoe

/-! ## The reference in five steps -/

/-- The band: positions at most 128 apart. -/
def band : IVec S1024x1024 1 :=
  cmpi .sle (absi (subi (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0)))))
    (broadcastInDim S1024x1024 ![] bcast_S_S1024x1024 (constantI S_ 32 128#32))
/-- The rows of the band that have an entry. -/
def keep : IVec S1024 1 := Host.reduce IntOp.ori band (constantI S_ 1 0#1) reducesTo_S1024x1024_S1024_d1 h_S_

/-- The scores: scaled products of queries and keys in the band, minus infinity outside. -/
def scores (x : FVec Ideal S8x1024x1024 .f32) (wq : FVec Ideal S1024x8192 .f32) (kk : FVec Ideal S8x1024x64x128 .f32) : FVec Ideal S8x64x1024x1024 .f32 :=
  select (broadcastInDim S8x64x1024x1024 ![0, 1, 2, 3] bcast_S1x1x1024x1024_S8x64x1024x1024_0_1_2_3
      (broadcastInDim S1x1x1024x1024 ![2, 3] bcast_S1024x1024_S1x1x1024x1024_2_3 band))
    (mulf (Host.dotGeneral dot_S8x1024x64x128_S8x1024x64x128_S8x64x1024x1024_3_3_1_1_02_02 none
        (shapeCast S8x1024x64x128 (Host.dotGeneral dot_S8x1024x1024_S1024x8192_S8x1024x8192_2_0_01_1_n_n none x wq : FVec Ideal S8x1024x8192 .f32) shapeCasts_S8x1024x8192_S8x1024x64x128) kk)
      (broadcastInDim S8x64x1024x1024 ![] bcast_S_S8x64x1024x1024 (constant S_ .f32 0x3DB504F3#32)))
    (broadcastInDim S8x64x1024x1024 ![] bcast_S_S8x64x1024x1024 (id (constant S_ .f32 0xFF800000#32)))

/-- The exponentials of the scores less their row's greatest. -/
def exps (s : FVec Ideal S8x64x1024x1024 .f32) : FVec Ideal S8x64x1024x1024 .f32 :=
  Host.exp (subf s (broadcastInDim S8x64x1024x1024 ![0, 1, 2, 3] bcast_S8x64x1024x1_S8x64x1024x1024_0_1_2_3
    (broadcastInDim S8x64x1024x1 ![0, 1, 2] bcast_S8x64x1024_S8x64x1024x1_0_1_2
      (Host.reduce FloatOps.maximumf s (constant S_ .f32 0xFF800000#32) reducesTo_S8x64x1024x1024_S8x64x1024_d3 h_S_))))

/-- The weights: the exponentials over their row's sum. -/
def weights (e : FVec Ideal S8x64x1024x1024 .f32) : FVec Ideal S8x64x1024x1024 .f32 :=
  select (broadcastInDim S8x64x1024x1024 ![0, 1, 2, 3] bcast_S1x1x1024x1_S8x64x1024x1024_0_1_2_3 (broadcastInDim S1x1x1024x1 ![2] bcast_S1024_S1x1x1024x1_2 keep))
    (Host.divf e (broadcastInDim S8x64x1024x1024 ![0, 1, 2, 3] bcast_S8x64x1024x1_S8x64x1024x1024_0_1_2_3
      (select (broadcastInDim S8x64x1024x1 ![0, 1, 2, 3] bcast_S1x1x1024x1_S8x64x1024x1_0_1_2_3 (broadcastInDim S1x1x1024x1 ![2] bcast_S1024_S1x1x1024x1_2 keep))
        (broadcastInDim S8x64x1024x1 ![0, 1, 2] bcast_S8x64x1024_S8x64x1024x1_0_1_2
          (Host.reduceAdd e (constant S_ .f32 0x00000000#32) reducesTo_S8x64x1024x1024_S8x64x1024_d3 h_S_))
        (broadcastInDim S8x64x1024x1 ![] bcast_S_S8x64x1024x1 (id (constant S_ .f32 0x3F800000#32))))))
    (broadcastInDim S8x64x1024x1024 ![] bcast_S_S8x64x1024x1024 (id (constant S_ .f32 0x00000000#32)))

/-- The weighted sums of the values, heads side by side, through the output projection. -/
def output (vv : FVec Ideal S8x1024x64x128 .f32) (w : FVec Ideal S8x64x1024x1024 .f32) (wo : FVec Ideal S8192x1024 .f32) : FVec Ideal S8x1024x1024 .f32 :=
  Host.dotGeneral dot_S8x1024x8192_S8192x1024_S8x1024x1024_2_0_01_1_n_n none
    (shapeCast S8x1024x8192 (transpose S8x1024x64x128 [0, 3, 1, 2]
      (Host.dotGeneral dot_S8x1024x64x128_S8x64x1024x1024_S8x64x128x1024_1_3_3_2_02_01 none vv w : FVec Ideal S8x64x128x1024 .f32) transposes_S8x64x128x1024_S8x1024x64x128_0_3_1_2)
      shapeCasts_S8x1024x64x128_S8x1024x8192) wo

theorem res_eq (m : (ℓ : Loc nD τ sig) → Buf (Elt Ideal) ℓ) (c : Dev nD) :
    res_main_v34 (F := Ideal) m c = output (m ((c.tc : Thread nD τ).loc main_arg3))
      (weights (exps (scores (m ((c.tc : Thread nD τ).loc main_arg0)) (m ((c.tc : Thread nD τ).loc main_arg1)) (m ((c.tc : Thread nD τ).loc main_arg2)))))
      (m ((c.tc : Thread nD τ).loc main_arg4)) := rfl

/-! ## Each step at an index -/

/-- The band at a pair of positions, as the words compute it. -/
def near (i t : Fin 1024) : BitVec 1 := IntOp.cmpi .sle (IntOp.absi (IntOp.subi (BitVec.ofNat 32 i.val) (BitVec.ofNat 32 t.val))) 128#32

theorem near_self (i : Fin 1024) : near i i = 1#1 := by
  unfold near
  rw [show IntOp.subi (BitVec.ofNat 32 i.val) (BitVec.ofNat 32 i.val) = 0#32 from BitVec.sub_self _]
  decide

theorem band_at (i t : Fin 1024) : band (ix2 i t) = near i t := by
  pointwise [band, near]

theorem keep_at (i : Fin 1024) : keep (ix1 i) = 1#1 := by
  pointwise [keep]
  simp only [band_at]
  exact (Routing.fold_ori _ _).mpr ⟨i, Finset.mem_univ _, near_self i⟩

theorem neg_inf : Ideal.ofBits .f32 0xFF800000#32 = ⊥ := by simp [Ideal.ofBits, Ideal.ieee]

theorem scores_at (x : FVec Ideal S8x1024x1024 .f32) (wq : FVec Ideal S1024x8192 .f32) (kk : FVec Ideal S8x1024x64x128 .f32) (b : Fin 8) (h : Fin 64) (i t : Fin 1024) :
    scores x wq kk (ix4 b h i t)
      = if near i t = 1#1 then
          (∑ e : Fin 128, (∑ k : Fin 1024, x (ix3 b i k) * wq (ix2 k ⟨h.val * 128 + e.val, by omega⟩)) * kk (ix4 b t h e)) * Ideal.ofBits .f32 0x3DB504F3#32
        else ⊥ := by
  pointwise [scores]
  simp only [band_at]
  rw [show (id (constant (F := Ideal) S_ FTy.f32 0xFF800000#32) ix0 : EReal) = ⊥ from neg_inf]
  rfl

theorem exps_at (s : FVec Ideal S8x64x1024x1024 .f32) (b : Fin 8) (h : Fin 64) (i t : Fin 1024) :
    exps s (ix4 b h i t) = Ideal.exp (s (ix4 b h i t) - Finset.univ.fold max ⊥ (fun t' : Fin 1024 => s (ix4 b h i t'))) := by
  pointwise [exps]
  rw [neg_inf]

theorem weights_at (e : FVec Ideal S8x64x1024x1024 .f32) (b : Fin 8) (h : Fin 64) (i t : Fin 1024) :
    weights e (ix4 b h i t) = Ideal.div (e (ix4 b h i t)) (∑ t' : Fin 1024, e (ix4 b h i t')) := by
  pointwise [weights]
  rw [keep_at]
  rfl

theorem output_at (vv : FVec Ideal S8x1024x64x128 .f32) (w : FVec Ideal S8x64x1024x1024 .f32) (wo : FVec Ideal S8192x1024 .f32) (b : Fin 8) (i n : Fin 1024) :
    output vv w wo (ix3 b i n)
      = ∑ E : Fin 8192, (∑ t : Fin 1024, vv (ix4 b t ⟨E.val / 128, by omega⟩ ⟨E.val % 128, by omega⟩) * w (ix4 b ⟨E.val / 128, by omega⟩ i t)) * wo (ix2 E n) := by
  pointwise [output]

end Cert.ReferenceIdeal.Run
end
-- ==== Proof.Value.lean ====
module

public import proofs.«01_k».proof.Proof.Launch
public import proofs.«01_k».proof.Proof.RefValue
public import Idealize.ShloMosaic.Lib.Pointwise

@[expose] public section

set_option maxRecDepth 16384

noncomputable section

namespace Cert.KernelIdeal.Run

open Cert.KernelIdeal Cert.KernelIdeal.Gen
open Idealize.ShloMosaic
open Cert.ReferenceIdeal.Run (near)

/-! ## The payloads at an index, over the extended reals -/

theorem pay12_at (a b : FVec Ideal S1024x1024 .bf16) (i e : Fin 1024) :
    k0_pay12 (F := Ideal) a b (ix2 i e) = (∑ d : Fin 1024, a (ix2 i d) * b (ix2 d e)) * Ideal.ofBits .f32 0x3DB504F3#32 := by
  pointwise [k0_pay12]

theorem pay14_at (q : FVec Ideal S1024x128 .bf16) (k v : FVec Ideal S1024x1x128 .f32) (bias : FVec Ideal S1024x1024 .f32) (i : Fin 1024) (d : Fin 128) :
    k0_pay14 (F := Ideal) q k bias v (ix2 i d)
      = Ideal.div (∑ t : Fin 1024, Ideal.exp ((∑ e : Fin 128, q (ix2 i e) * k (ix3 t 0 e)) + bias (ix2 i t)) * v (ix3 t 0 d))
          (∑ t : Fin 1024, Ideal.exp ((∑ e : Fin 128, q (ix2 i e) * k (ix3 t 0 e)) + bias (ix2 i t))) := by
  pointwise [k0_pay14]

theorem pay15_at (s : FVec Ideal S1x1024x1024 .f32) (a b : FVec Ideal S1024x1024 .bf16) (i n : Fin 1024) :
    k0_pay15 (F := Ideal) s a b (ix3 0 i n) = s (ix3 0 i n) + ∑ e : Fin 1024, a (ix2 i e) * b (ix2 e n) := by
  pointwise [k0_pay15]

theorem pay10_at (i n : Fin 1024) : k0_pay10 (F := Ideal) (ix3 0 i n) = 0 := by
  pointwise [k0_pay10]

/-- The named mask is minus infinity. -/
theorem mask_val : Named.named (F := Ideal) κ "mask" (φ := .f32) 0xCE6E6B28#32 = ⊥ :=
  IdealRules.named_const.ideal_named_scalar _ _ _ _ rfl

/-- The bias: nothing in the band, minus infinity outside. -/
theorem bias_at (i t : Fin 1024) : biasV (F := Ideal) (ix2 i t) = if near i t = 1#1 then 0 else ⊥ := by
  have h : biasV (F := Ideal) (ix2 i t) = Scalar.select (near i t) (0 : EReal) (Named.named (F := Ideal) κ "mask" (φ := .f32) 0xCE6E6B28#32) := by
    pointwise [biasV, k0_pay9, k0_pay7, k0_pay8, near]
  rw [h, mask_val]
  rfl

/-! ## What the hops read, at an index -/

variable (B : Vals Ideal)

theorem xb_at (c : Dev nD) (i d : Fin 1024) : xbV B c (ix2 i d) = B.x c (ix3 0 i d) := by
  pointwise [xbV, k0_pay6]
theorem wq_at (j : Dev nD) (d e : Fin 1024) : wqV B j (ix2 d e) = B.wq j (ix2 d e) := by
  pointwise [wqV, k0_pay11, k0_pay4]
theorem wo_at (j : Dev nD) (e n : Fin 1024) : woV B j (ix2 e n) = B.wo j (ix2 e n) := by
  pointwise [woV, k0_pay13, k0_pay5]

/-- Row-major, a leading axis of one moves nothing. -/
theorem squeeze_idx (t : Fin 1024) (g : Fin 8) (d : Fin 128) :
    Shape.reshapeEquiv squeezes_S1x1024x8x128_S1024x8x128.numel_eq (ix3 t g d) = ix4 (0 : Fin 1) t g d := by
  have h : shapeCast S1024x8x128 (id : S1x1024x8x128.Idx → S1x1024x8x128.Idx) squeezes_S1x1024x8x128_S1024x8x128.numel_eq (ix3 t g d) = ix4 (0 : Fin 1) t g d := by
    pointwise
    rfl
  exact h

/-- The fetched block sits at the device's batch row and at the eight heads of the weights' owner. -/
theorem fetch_idx (c : Dev nD) (h : Fin 8) (t : Fin 1024) (g : Fin 8) (d : Fin 128) :
    (Rect.unit (s := S8x1024x64x128) (k0_off1 c (BitVec.ofNat 32 h.val)) S1x1024x8x128.size (k0_off1_inb c h)).idx (ix4 (0 : Fin 1) t g d)
      = ix4 (⟨c.val, c.isLt⟩ : Fin 8) t (⟨8 * (back c h.val).val + g.val, by have := (back c h.val).isLt; change (back c h.val).val < 8 at this; omega⟩ : Fin 64) d := by
  have ho := k0_off1_eq c h
  have hh := h.isLt
  have o0 : k0_off1 c (BitVec.ofNat 32 h.val) 0 = c.val := by rw [ho]; rfl
  have o1 : k0_off1 c (BitVec.ofNat 32 h.val) 1 = 0 := by rw [ho]; rfl
  have o2 : k0_off1 c (BitVec.ofNat 32 h.val) 2 = 8 * (((c.val + 8) - h.val) % 8) := by rw [ho]; rfl
  have o3 : k0_off1 c (BitVec.ofNat 32 h.val) 3 = 0 := by rw [ho]; rfl
  funext a
  match a with
  | ⟨0, _⟩ => exact Fin.ext (by change k0_off1 c (BitVec.ofNat 32 h.val) 0 + 1 * 0 = c.val; omega)
  | ⟨1, _⟩ => exact Fin.ext (by change k0_off1 c (BitVec.ofNat 32 h.val) 1 + 1 * t.val = t.val; omega)
  | ⟨2, _⟩ => exact Fin.ext (by change k0_off1 c (BitVec.ofNat 32 h.val) 2 + 1 * g.val = 8 * ((c.val + 8 - h.val % 8) % 8) + g.val; rw [Nat.mod_eq_of_lt hh]; omega)
  | ⟨3, _⟩ => exact Fin.ext (by change k0_off1 c (BitVec.ofNat 32 h.val) 3 + 1 * d.val = d.val; omega)

theorem k_at (c : Dev nD) (h : Fin 8) (t : Fin 1024) (g : Fin 8) (d : Fin 128) :
    kV B c h (ix3 t g d) = B.kk c (ix4 (⟨c.val, c.isLt⟩ : Fin 8) t (⟨8 * (back c h.val).val + g.val, by have := (back c h.val).isLt; change (back c h.val).val < 8 at this; omega⟩ : Fin 64) d) := by
  rw [← fetch_idx, ← squeeze_idx]
  rfl
theorem v_at (c : Dev nD) (h : Fin 8) (t : Fin 1024) (g : Fin 8) (d : Fin 128) :
    vV B c h (ix3 t g d) = B.vv c (ix4 (⟨c.val, c.isLt⟩ : Fin 8) t (⟨8 * (back c h.val).val + g.val, by have := (back c h.val).isLt; change (back c h.val).val < 8 at this; omega⟩ : Fin 64) d) := by
  rw [← fetch_idx, ← squeeze_idx]
  rfl

/-- One head of the queries, and of the keys or values. -/
theorem headQ_at (q : Vec Ideal S1024x1024 .bf16) (k : Fin k0_t1_loop.trips) (i : Fin 1024) (e : Fin 128) (hk : 128 * k.val + e.val < 1024) :
    qsM.view.readAt (Elt Ideal) (Rect.unit (s := S1024x1024) (k0_off2 k) S1024x128.size (k0_off2_inb k)).toLoadRect q (ix2 i e)
      = q (ix2 i ⟨128 * k.val + e.val, hk⟩) := by
  have o0 : k0_off2 k 0 = 0 := by rw [k0_off2_eq]; rfl
  have o1 : k0_off2 k 1 = 128 * k.val := by rw [k0_off2_eq]; rfl
  show q ((Rect.unit (s := S1024x1024) (k0_off2 k) S1024x128.size (k0_off2_inb k)).idx (ix2 i e)) = _
  congr 1
  funext a
  match a with
  | ⟨0, _⟩ => exact Fin.ext (by change k0_off2 k 0 + 1 * i.val = i.val; omega)
  | ⟨1, _⟩ => exact Fin.ext (by change k0_off2 k 1 + 1 * e.val = 128 * k.val + e.val; omega)
theorem headK_idx (k : Fin k0_t1_loop.trips) (t : Fin 1024) (e : Fin 128) (hk : k.val < 8) :
    (Rect.unit (s := S1024x8x128) (k0_off3 k) S1024x1x128.size (k0_off3_inb k)).idx (ix3 t (0 : Fin 1) e) = ix3 t ⟨k.val, hk⟩ e := by
  have o0 : k0_off3 k 0 = 0 := by rw [k0_off3_eq]; rfl
  have o1 : k0_off3 k 1 = k.val := by rw [k0_off3_eq]; rfl
  have o2 : k0_off3 k 2 = 0 := by rw [k0_off3_eq]; rfl
  funext a
  match a with
  | ⟨0, _⟩ => exact Fin.ext (by change k0_off3 k 0 + 1 * t.val = t.val; omega)
  | ⟨1, _⟩ => exact Fin.ext (by change k0_off3 k 1 + 1 * 0 = k.val; omega)
  | ⟨2, _⟩ => exact Fin.ext (by change k0_off3 k 2 + 1 * e.val = e.val; omega)
theorem headK_at (kb : Vec Ideal S1024x8x128 .f32) (k : Fin k0_t1_loop.trips) (t : Fin 1024) (e : Fin 128) (hk : k.val < 8) :
    kblkM.view.readAt (Elt Ideal) (Rect.unit (s := S1024x8x128) (k0_off3 k) S1024x1x128.size (k0_off3_inb k)).toLoadRect kb (ix3 t 0 e)
      = kb (ix3 t ⟨k.val, hk⟩ e) := by
  rw [← headK_idx]; rfl
theorem headV_at (vb : Vec Ideal S1024x8x128 .f32) (k : Fin k0_t1_loop.trips) (t : Fin 1024) (e : Fin 128) (hk : k.val < 8) :
    vblkM.view.readAt (Elt Ideal) (Rect.unit (s := S1024x8x128) (k0_off3 k) S1024x1x128.size (k0_off3_inb k)).toLoadRect vb (ix3 t 0 e)
      = vb (ix3 t ⟨k.val, hk⟩ e) := by
  rw [← headK_idx]; rfl

/-! ## The attention of one hop, and the sum of the hops -/

/-- The kernel's score of positions `i`, `t` under head `k` of device `j`'s weights, at device `c`. -/
def kscore (c j : Dev nD) (k : Fin 8) (i t : Fin 1024) : EReal :=
  (∑ e : Fin 128, ((∑ a : Fin 1024, B.x c (ix3 0 i a) * B.wq j (ix2 a ⟨128 * k.val + e.val, by omega⟩)) * Ideal.ofBits .f32 0x3DB504F3#32)
      * B.kk c (ix4 (⟨c.val, c.isLt⟩ : Fin 8) t (⟨8 * j.val + k.val, by have := j.isLt; change j.val < 8 at this; omega⟩ : Fin 64) e))
    + if near i t = 1#1 then 0 else ⊥

theorem ctx_at (c : Dev nD) (h : Fin 8) (i e : Fin 1024) :
    ctxV B c h.val (ix2 i e)
      = Ideal.div
          (∑ t : Fin 1024, Ideal.exp (kscore B c (back c h.val) ⟨e.val / 128, by omega⟩ i t)
            * B.vv c (ix4 (⟨c.val, c.isLt⟩ : Fin 8) t (⟨8 * (back c h.val).val + e.val / 128, by have := (back c h.val).isLt; change (back c h.val).val < 8 at this; omega⟩ : Fin 64) ⟨e.val % 128, by omega⟩))
          (∑ t : Fin 1024, Ideal.exp (kscore B c (back c h.val) ⟨e.val / 128, by omega⟩ i t)) := by
  have hf : f8 h.val = h := Fin.ext (Nat.mod_eq_of_lt h.isLt)
  have hk : e.val / 128 < 8 := by omega
  show headOut (qsV B c (back c h.val)) (kV B c (f8 h.val)) (vV B c (f8 h.val)) ⟨e.val / 128, by rw [trips8]; exact hk⟩
    (ValueIdx.ix2 i ⟨e.val % 128, Nat.mod_lt _ (by decide)⟩) = _
  rw [hf, ← ix2_eq_valueIdx]
  unfold headOut
  rw [pay14_at]
  have hs : ∀ t : Fin 1024, (∑ e' : Fin 128,
        qsM.view.readAt (Elt Ideal) (Rect.unit (s := S1024x1024) (k0_off2 ⟨e.val / 128, by rw [trips8]; exact hk⟩) S1024x128.size (k0_off2_inb _)).toLoadRect (qsV B c (back c h.val)) (ix2 i e')
          * kblkM.view.readAt (Elt Ideal) (Rect.unit (s := S1024x8x128) (k0_off3 ⟨e.val / 128, by rw [trips8]; exact hk⟩) S1024x1x128.size (k0_off3_inb _)).toLoadRect (kV B c h) (ix3 t 0 e')
        : EReal) + biasV (F := Ideal) (ix2 i t) = kscore B c (back c h.val) ⟨e.val / 128, by omega⟩ i t := by
    intro t
    unfold kscore
    rw [bias_at]
    congr 1
    refine Finset.sum_congr rfl fun e' _ => ?_
    rw [headQ_at _ _ _ _ (by change 128 * (e.val / 128) + e'.val < 1024; omega), headK_at _ _ _ _ hk, k_at]
    unfold qsV
    rw [pay12_at]
    simp only [xb_at, wq_at]
  rw [Finset.sum_congr rfl (fun t _ => congrArg Ideal.exp (hs t)), Finset.sum_congr rfl (fun t _ => congrArg₂ (· * ·) (congrArg Ideal.exp (hs t)) (headV_at (vV B c h) ⟨e.val / 128, by rw [trips8]; exact hk⟩ t ⟨e.val % 128, Nat.mod_lt _ (by decide)⟩ hk))]
  simp only [v_at]

/-- The output of device `c`: the hops' terms summed. -/
theorem acc_at (c : Dev nD) (i n : Fin 1024) (H : ℕ) :
    acc B c H (ix3 0 i n) = ∑ h ∈ Finset.range H, ∑ e : Fin 1024, ctxV B c h (ix2 i e) * B.wo (back c h) (ix2 e n) := by
  induction H with
  | zero => exact pay10_at i n
  | succ H ih =>
    rw [Finset.sum_range_succ, ← ih]
    show k0_pay15 (acc B c H) (ctxV B c H) (woV B (back c H)) (ix3 0 i n) = _
    rw [pay15_at]
    simp only [wo_at]

end Cert.KernelIdeal.Run
end
-- ==== Proof.Softmax.lean ====
module

public import Idealize.ShloMosaic.PureOps.Ideal

@[expose] public section

noncomputable section

namespace Cert.Attention

open Idealize.ShloMosaic

/-! ## Sums of extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real multiplies into a sum, whatever the terms. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, mul_comm,
      EReal.left_distrib_of_nonneg_of_ne_top (EReal.coe_nonneg.mpr hr) (EReal.coe_ne_top r), mul_comm, mul_comm _ (∑ i ∈ s, f i), ih]

/-- A finite extended real is a real. -/
def IsReal (x : EReal) : Prop := ∃ r : ℝ, x = (r : EReal)

/-- Of real entries: scaling the queries and scaling their products with the keys come to the same real. -/
theorem score_eq {n k : ℕ} (σ : EReal)
    (x : Fin n → EReal) (W : Fin n → Fin k → EReal) (K : Fin k → EReal)
    (hx : ∀ a, IsReal (x a)) (hW : ∀ a e, IsReal (W a e)) (hK : ∀ e, IsReal (K e)) (hσ : IsReal σ) :
    ∃ r : ℝ, (∑ e, ((∑ a, x a * W a e) * σ) * K e) = (r : EReal) ∧ (∑ e, (∑ a, x a * W a e) * K e) * σ = (r : EReal) := by
  choose x' hx' using hx
  choose W' hW' using hW
  choose K' hK' using hK
  obtain ⟨s, hs⟩ := hσ
  refine ⟨(∑ e, (∑ a, x' a * W' a e) * K' e) * s, ?_, ?_⟩
  · rw [Finset.sum_mul, coe_sum]
    refine Finset.sum_congr rfl fun e _ => ?_
    rw [hK', hs, Finset.sum_congr rfl (fun a _ => by rw [hx', hW', ← EReal.coe_mul]), ← coe_sum, ← EReal.coe_mul, ← EReal.coe_mul]
    exact congrArg _ (by ring)
  · rw [hs, EReal.coe_mul, coe_sum]
    congr 1
    refine Finset.sum_congr rfl fun e _ => ?_
    rw [hK', Finset.sum_congr rfl (fun a _ => by rw [hx', hW', ← EReal.coe_mul]), ← coe_sum, ← EReal.coe_mul]

/-! ## The softmax with and without the row's greatest taken off -/

/-- A score: a real, or minus infinity. -/
def Score (x : EReal) : Prop := x = ⊥ ∨ IsReal x

theorem exp_score {x : EReal} (h : Score x) : ∃ p : ℝ, 0 ≤ p ∧ Ideal.exp x = (p : EReal) ∧ (IsReal x → 0 < p)
    ∧ ∀ M : ℝ, Ideal.exp (x - (M : EReal)) = ((p * Real.exp (-M) : ℝ) : EReal) := by
  rcases h with rfl | ⟨r, rfl⟩
  · refine ⟨0, le_refl _, rfl, fun ⟨r, hr⟩ => absurd hr (EReal.bot_ne_coe r), fun M => ?_⟩
    rw [EReal.bot_sub, Ideal.exp_bot, zero_mul]; rfl
  · refine ⟨Real.exp r, (Real.exp_pos r).le, rfl, fun _ => Real.exp_pos r, fun M => ?_⟩
    rw [← EReal.coe_sub, Ideal.exp_coe, sub_eq_add_neg, Real.exp_add]

theorem max_score {n : ℕ} (s : Fin n → EReal) (hs : ∀ t, Score (s t)) (t₀ : Fin n) (h₀ : IsReal (s t₀)) :
    ∃ M : ℝ, Finset.univ.fold max ⊥ s = (M : EReal) := by
  have hle : s t₀ ≤ Finset.univ.fold max ⊥ s := (Finset.le_fold_max _).mpr (Or.inr ⟨t₀, Finset.mem_univ _, le_refl _⟩)
  have htop : Finset.univ.fold max ⊥ s < ⊤ := (Finset.fold_max_lt _).mpr ⟨bot_lt_top, fun t _ => by
    rcases hs t with h | ⟨r, h⟩
    · rw [h]; exact bot_lt_top
    · rw [h]; exact EReal.coe_lt_top r⟩
  obtain ⟨r, hr⟩ := h₀
  refine ⟨(Finset.univ.fold max ⊥ s).toReal, (EReal.coe_toReal htop.ne ?_).symm⟩
  intro h
  rw [h, hr] at hle
  exact absurd (le_bot_iff.mp hle) (EReal.coe_ne_bot r)

/-- The weighted mean by exponentials of the scores is the one by exponentials of the scores less their greatest. -/
theorem softmax_eq {n : ℕ} (s V : Fin n → EReal) (hs : ∀ t, Score (s t)) (t₀ : Fin n) (h₀ : IsReal (s t₀)) :
    Ideal.div (∑ t, Ideal.exp (s t) * V t) (∑ t, Ideal.exp (s t))
      = ∑ t, V t * Ideal.div (Ideal.exp (s t - Finset.univ.fold max ⊥ s)) (∑ t', Ideal.exp (s t' - Finset.univ.fold max ⊥ s)) := by
  obtain ⟨M, hM⟩ := max_score s hs t₀ h₀
  rw [hM]
  choose p hp0 hp hpos hpM using fun t => exp_score (hs t)
  simp only [hp, hpM]
  rw [← coe_sum, ← coe_sum, ← Finset.sum_mul]
  have hD : 0 < ∑ t, p t := Finset.sum_pos' (fun t _ => hp0 t) ⟨t₀, Finset.mem_univ _, hpos t₀ h₀⟩
  have hE : 0 < Real.exp (-M) := Real.exp_pos _
  rw [Ideal.div_coe hD.ne', sum_mul_coe _ _ _ (by positivity)]
  refine Finset.sum_congr rfl fun t _ => ?_
  rw [Ideal.div_coe (mul_pos hD hE).ne', mul_comm (p t : EReal), mul_assoc, ← EReal.coe_mul, ← EReal.coe_mul]
  refine congrArg _ (congrArg _ ?_)
  field_simp

end Cert.Attention
end
-- ==== Proof.Finite.lean ====
module

public import proofs.«01_k».proof.Defs
public import proofs.«01_k».proof.Proof.Gen.Pre_scores_finite_KernelIdeal
public import proofs.«01_k».proof.Proof.Softmax
public import Idealize.ShloMosaic.Lib.ReduceAll

@[expose] public section

noncomputable section

namespace Cert.Attention

open Idealize.ShloMosaic Cert.Pre_scores_finite_KernelIdeal Cert.Pre_scores_finite_KernelIdeal.Facts

theorem pos_inf : Ideal.ofBits .f32 0x7F800000#32 = ⊤ := by simp [Ideal.ofBits, Ideal.ieee]

/-- An absolute value below infinity is a real's. -/
theorem real_of_abs_lt {x : EReal} (h : max x (-x) < ⊤) : IsReal x := by
  refine ⟨x.toReal, (EReal.coe_toReal ?_ ?_).symm⟩
  · rintro rfl; exact absurd (lt_of_le_of_lt (le_max_left _ _) h) (lt_irrefl _)
  · rintro rfl; exact absurd (lt_of_le_of_lt (le_max_right _ _) h) (by simp)

theorem real_of_cmp {x : EReal} (h : Ideal.cmp .olt (max x (-x)) (Ideal.ofBits .f32 0x7F800000#32) = 1#1) : IsReal x := by
  rw [pos_inf] at h
  by_cases hx : max x (-x) < ⊤
  · exact real_of_abs_lt hx
  · exact absurd h (by simp [Ideal.cmp, hx])

instance : Subsingleton S_.Idx := ⟨fun a b => funext fun i => i.elim0⟩

/-- The precondition says that activations, query weights and keys are real. -/
theorem finite_of_pre [Cert.Pre_scores_finite_KernelIdeal.Facts] (x : FVec Ideal S1x1024x1024 .f32) (wq : FVec Ideal S1024x1024 .f32) (kk vv : FVec Ideal S8x1024x64x128 .f32) (wo : FVec Ideal S1024x1024 .f32)
    (h : fn (F := Ideal) x wq kk vv wo = fun _ => 1#1) : (∀ i, IsReal (x i)) ∧ (∀ i, IsReal (wq i)) ∧ ∀ i, IsReal (kk i) := by
  have h0 := congrFun h (fun i => i.elim0)
  obtain ⟨h1, hk⟩ := IntOp.andi_eq_one.1 h0
  obtain ⟨hx, hw⟩ := IntOp.andi_eq_one.1 h1
  exact ⟨fun i => real_of_cmp (Host.reduce_andi_all _ _ _ _ _ hx i), fun i => real_of_cmp (Host.reduce_andi_all _ _ _ _ _ hw i),
    fun i => real_of_cmp (Host.reduce_andi_all _ _ _ _ _ hk i)⟩

/-- The scale is real. -/
theorem real_scale : IsReal (Ideal.ofBits .f32 0x3DB504F3#32) := by
  have h : ∃ a b : ℝ, Ideal.ofBits .f32 0x3DB504F3#32 = (a : EReal) * (b : EReal) := by
    simp only [Ideal.ofBits, Ideal.ieee]
    exact ⟨_, _, rfl⟩
  obtain ⟨a, b, h⟩ := h
  exact ⟨a * b, h.trans (EReal.coe_mul a b).symm⟩

end Cert.Attention
end
-- ==== Proof.Equation.lean ====
module

public import proofs.«01_k».proof.Proof.Value
public import proofs.«01_k».proof.Proof.Softmax
public import proofs.«01_k».proof.Proof.Finite
public import Idealize.ShloMosaic.Lib.Layout

@[expose] public section

set_option maxRecDepth 16384

noncomputable section

namespace Cert.KernelIdeal.Run

open Cert.KernelIdeal Cert.KernelIdeal.Gen
open Idealize.ShloMosaic
open Cert.ReferenceIdeal.Run (near near_self scores scores_at exps exps_at weights weights_at output output_at)
open Cert.Attention
open Cert.ReferenceIdeal (S8x1024x1024 S1024x8192 S8192x1024)

/-! ## The blocks at an index -/

theorem block_batch (c : Fin 8) (v : (⟨3, ![8, 1024, 1024]⟩ : Shape).Idx → EReal) (i n : Fin 1024) :
    Layout.block ⟨3, ![1, 1024, 1024]⟩ ⟨3, ![8, 1024, 1024]⟩ 0 8 c v (by decide) (ix3 (0 : Fin 1) i n) = v (ix3 c i n) := by
  rw [Layout.block_apply]
  refine congrArg _ (funext fun b => ?_)
  match b with
  | ⟨0, _⟩ => exact Fin.ext (by change c.val * 1 + 0 = c.val; omega)
  | ⟨1, _⟩ => rfl
  | ⟨2, _⟩ => rfl
theorem block_cols (c : Fin 8) (v : (⟨2, ![1024, 8192]⟩ : Shape).Idx → EReal) (a e : Fin 1024) :
    Layout.block ⟨2, ![1024, 1024]⟩ ⟨2, ![1024, 8192]⟩ 1 8 c v (by decide) (ix2 a e) = v (ix2 a ⟨1024 * c.val + e.val, by omega⟩) := by
  rw [Layout.block_apply]
  refine congrArg _ (funext fun b => ?_)
  match b with
  | ⟨0, _⟩ => rfl
  | ⟨1, _⟩ => exact Fin.ext (by change c.val * 1024 + e.val = 1024 * c.val + e.val; omega)
theorem block_rows (c : Fin 8) (v : (⟨2, ![8192, 1024]⟩ : Shape).Idx → EReal) (e n : Fin 1024) :
    Layout.block ⟨2, ![1024, 1024]⟩ ⟨2, ![8192, 1024]⟩ 0 8 c v (by decide) (ix2 e n) = v (ix2 ⟨1024 * c.val + e.val, by omega⟩ n) := by
  rw [Layout.block_apply]
  refine congrArg _ (funext fun b => ?_)
  match b with
  | ⟨0, _⟩ => exact Fin.ext (by change c.val * 1024 + e.val = 1024 * c.val + e.val; omega)
  | ⟨1, _⟩ => rfl

/-- The devices' blocks are the blocks of the whole arrays. -/
structure Parts (B : Vals Ideal) (X : FVec Ideal S8x1024x1024 .f32) (WQ : FVec Ideal S1024x8192 .f32) (K V : FVec Ideal S8x1024x64x128 .f32)
    (WO : FVec Ideal S8192x1024 .f32) : Prop where
  x : ∀ (c : Fin 8) (i a : Fin 1024), B.x c (ix3 0 i a) = X (ix3 c i a)
  wq : ∀ (j : Fin 8) (a e : Fin 1024), B.wq j (ix2 a e) = WQ (ix2 a ⟨1024 * j.val + e.val, by omega⟩)
  kk : ∀ c : Fin 8, B.kk c = K
  vv : ∀ c : Fin 8, B.vv c = V
  wo : ∀ (j : Fin 8) (e n : Fin 1024), B.wo j (ix2 e n) = WO (ix2 ⟨1024 * j.val + e.val, by omega⟩ n)
  realX : ∀ (c : Fin 8) i, IsReal (B.x c i)
  realW : ∀ (c : Fin 8) i, IsReal (B.wq c i)
  realK : ∀ (c : Fin 8) i, IsReal (B.kk c i)

variable {B : Vals Ideal} {X : FVec Ideal S8x1024x1024 .f32} {WQ : FVec Ideal S1024x8192 .f32} {K V : FVec Ideal S8x1024x64x128 .f32}
  {WO : FVec Ideal S8192x1024 .f32} (P : Parts B X WQ K V WO)
include P

/-- Kernel and reference give a pair of positions the same score: a real in the band, minus infinity outside. -/
theorem kscore_eq (c j k : Fin 8) (i t : Fin 1024) :
    kscore B c j k i t = scores X WQ K (ix4 c ⟨8 * j.val + k.val, by omega⟩ i t)
      ∧ Score (kscore B c j k i t) ∧ (near i t = 1#1 → IsReal (kscore B c j k i t)) := by
  rw [scores_at]
  by_cases hn : near i t = 1#1
  · obtain ⟨r, h1, h2⟩ := score_eq (Ideal.ofBits .f32 0x3DB504F3#32)
      (fun a : Fin 1024 => B.x c (ix3 0 i a)) (fun a (e : Fin 128) => B.wq j (ix2 a ⟨128 * k.val + e.val, by omega⟩))
      (fun e => B.kk c (ix4 c t ⟨8 * j.val + k.val, by omega⟩ e))
      (fun a => P.realX c _) (fun a e => P.realW j _) (fun e => P.realK c _) real_scale
    have hk : kscore B c j k i t = (r : EReal) := by
      unfold kscore
      rw [if_pos hn, add_zero]
      exact h1
    rw [hk, if_pos hn]
    refine ⟨?_, Or.inr ⟨r, rfl⟩, fun _ => ⟨r, rfl⟩⟩
    rw [← h2]
    congr 1
    refine Finset.sum_congr rfl fun e _ => ?_
    rw [P.kk]
    congr 1
    refine Finset.sum_congr rfl fun a _ => ?_
    rw [P.x, P.wq]
    congr 3
    exact Fin.ext (by change 1024 * j.val + (128 * k.val + e.val) = (8 * j.val + k.val) * 128 + e.val; omega)
  · have hk : kscore B c j k i t = ⊥ := by
      unfold kscore
      rw [if_neg hn, EReal.add_bot]
    rw [hk, if_neg hn]
    exact ⟨rfl, Or.inl rfl, fun h => absurd h hn⟩

/-- The attention of one hop is the reference's at the eight heads of the weights' owner. -/
theorem ctx_eq (c h : Fin 8) (i e : Fin 1024) :
    ctxV B c h.val (ix2 i e)
      = ∑ t : Fin 1024, V (ix4 c t ⟨(1024 * (back c h.val).val + e.val) / 128, by have := (back c h.val).isLt; change (back c h.val).val < 8 at this; omega⟩ ⟨(1024 * (back c h.val).val + e.val) % 128, by omega⟩)
          * weights (exps (scores X WQ K)) (ix4 c ⟨(1024 * (back c h.val).val + e.val) / 128, by have := (back c h.val).isLt; change (back c h.val).val < 8 at this; omega⟩ i t) := by
  rw [ctx_at]
  have hj8 : (back c h.val).val < 8 := (back c h.val).isLt
  have e1 : (⟨(1024 * (back c h.val).val + e.val) / 128, by omega⟩ : Fin 64) = ⟨8 * (back c h.val).val + e.val / 128, by omega⟩ :=
    Fin.ext (by change (1024 * (back c h.val).val + e.val) / 128 = 8 * (back c h.val).val + e.val / 128; omega)
  have e2 : (⟨(1024 * (back c h.val).val + e.val) % 128, by omega⟩ : Fin 128) = ⟨e.val % 128, by omega⟩ :=
    Fin.ext (by change (1024 * (back c h.val).val + e.val) % 128 = e.val % 128; omega)
  rw [e1, e2]
  have hs := fun t => kscore_eq P c (back c h.val) ⟨e.val / 128, by omega⟩ i t
  rw [softmax_eq _ _ (fun t => (hs t).2.1) i ((hs i).2.2 (near_self i))]
  refine Finset.sum_congr rfl fun t _ => ?_
  rw [weights_at]
  simp only [exps_at, (hs _).1]
  rw [P.vv]

omit P in
/-- Going back twice, the second time by the number of the device come to, ends at the first number of hops. -/
theorem back_back (c h : Fin 8) : back c (back c h.val).val = h := by revert c h; decide

/-- The hops go through the devices, each once. -/
def hops (c : Fin 8) : Fin 8 ≃ Fin 8 := ⟨fun h => back c h.val, fun h => back c h.val, back_back c, back_back c⟩

/-- The kernel's output at device `c` is the reference's batch row `c`. -/
theorem output_eq (c : Fin 8) (i n : Fin 1024) :
    acc B c 8 (ix3 0 i n) = output V (weights (exps (scores X WQ K))) WO (ix3 c i n) := by
  rw [acc_at, output_at, Finset.sum_range]
  refine Eq.trans ?_ ((finProdFinEquiv (m := 8) (n := 1024)).sum_comp _)
  rw [Fintype.sum_prod_type]
  refine Eq.trans ?_ ((hops c).sum_comp _)
  refine Finset.sum_congr rfl fun h _ => Finset.sum_congr rfl fun e _ => ?_
  have hE : finProdFinEquiv (m := 8) (n := 1024) (hops c h, e)
      = (⟨1024 * (back c h.val).val + e.val, by have := (back c h.val).isLt; change (back c h.val).val < 8 at this; omega⟩ : Fin 8192) := Fin.ext (by
    change e.val + 1024 * (back c h.val).val = 1024 * (back c h.val).val + e.val; omega)
  rw [hE, ctx_eq P, P.wo]

/-- The kernel's output at device `c` is its block of the reference's. -/
theorem output_block (c : Fin 8) :
    acc B c 8 = Layout.block ⟨3, ![1, 1024, 1024]⟩ ⟨3, ![8, 1024, 1024]⟩ 0 8 c (output V (weights (exps (scores X WQ K))) WO) (by decide) := by
  funext q
  have h (a : Fin 1) (i n : Fin 1024) :
      acc B c 8 (ix3 a i n) = Layout.block ⟨3, ![1, 1024, 1024]⟩ ⟨3, ![8, 1024, 1024]⟩ 0 8 c (output V (weights (exps (scores X WQ K))) WO) (by decide) (ix3 a i n) := by
    rw [Subsingleton.elim a 0]
    exact (output_eq P c i n).trans (block_batch c _ i n).symm
  rw [eq_ix3 q]
  exact h _ _ _

end Cert.KernelIdeal.Run
end
-- ==== Proof.lean ====
/- The claims about the ring of eight devices (the run's final memory) and about the reference (its operations in order). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import proofs.«01_k».proof.Proof.Launch
public import proofs.«01_k».proof.Proof.PrintedLaunch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The printed kernel, over words: it terminates, its arguments end as they were and every counter at zero. -/
theorem frame_kernel : Cert.quiescent_Kernel := fun m ρ _ =>
  (θ_run Cert.Kernel.defs _ _).mono (fun _ h => ⟨fun c => ⟨(h.1 c).1, (h.1 c).2.1, (h.1 c).2.2.1, (h.1 c).2.2.2.1, (h.1 c).2.2.2.2.1⟩, h.2⟩)
    (Cert.Kernel.Run.run_values m ρ)

/-- The same of the kernel over the extended reals. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.KernelIdeal.Run.run_values m ρ)

/-- The same under the values claim's precondition. -/
theorem frame_ideal_pre : Cert.quiescent_KernelIdeal_pre_scores_finite_KernelIdeal := fun m ρ _ => frame_ideal m ρ trivial

/-- The same of the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_scores_finite_ReferenceIdeal := fun m ρ _ => frame_reference m ρ trivial

/-- The one constant that the kernel over the extended reals reads otherwise: the mask's fill, minus infinity. -/
theorem preserves : Cert.preserves_Kernel_KernelIdeal :=
  IdealRules.named_const.statement Cert.KernelIdeal.κ "mask" .f32 0xCE6E6B28#32 ⊥ rfl

/-- The blocks that the devices start from are the whole arrays' blocks, and what the scores are made of is real. -/
theorem parts (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_scores_finite_KernelIdeal m)
    (h : ∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) :
    Cert.KernelIdeal.Run.Parts (Cert.KernelIdeal.Run.valsOf m)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) where
  x c i a := (congrFun (h c).1 _).trans (Cert.KernelIdeal.Run.block_batch c _ i a)
  wq j a e := (congrFun (h j).2.1 _).trans (Cert.KernelIdeal.Run.block_cols j _ a e)
  kk c := (h c).2.2.1
  vv c := (h c).2.2.2.1
  wo j e n := (congrFun (h j).2.2.2.2 _).trans (Cert.KernelIdeal.Run.block_rows j _ e n)
  realX c := (Cert.Attention.finite_of_pre _ _ _ _ _ (hp c)).1
  realW c := (Cert.Attention.finite_of_pre _ _ _ _ _ (hp c)).2.1
  realK c := (Cert.Attention.finite_of_pre _ _ _ _ _ (hp c)).2.2

/-- Over the extended reals device `c` ends with batch row `c` of the reference's result. -/
theorem algebraic : Cert.algebraic_KernelIdeal_ReferenceIdeal_pre_scores_finite_KernelIdeal := by
  intro m ρ m' ρ' hp h
  have P := parts m m' hp h
  refine ⟨Cert.ReferenceIdeal.Value.res_main_v34 (F := Ideal) m' 0, ?_, ?_⟩
  · refine (θ_run Cert.KernelIdeal.defs _ _).mono (fun r hr c => ?_) (Cert.KernelIdeal.Run.run_values (F := Ideal) m ρ)
    obtain ⟨h0, h1, h2, h3, h4, hv⟩ := hr.1 c
    refine ⟨hv.trans ?_, h0, h1, h2, h3, h4⟩
    rw [Cert.ReferenceIdeal.Run.res_eq]
    exact Cert.KernelIdeal.Run.output_block P c
  · exact (θ_run Cert.ReferenceIdeal.defs _ _).mono (fun r hr => hr 0) (Cert.ReferenceIdeal.Value.run (F := Ideal) m' ρ')

theorem claim : Cert.Claim :=
  ⟨Cert.Kernel.Gen.facts, Cert.KernelIdeal.Gen.facts, Cert.ReferenceIdeal.Gen.facts, Cert.Pre_scores_finite_KernelIdeal.Gen.facts, Cert.Pre_scores_finite_ReferenceIdeal.Gen.facts,
    frame_kernel, frame_ideal, frame_ideal_pre, frame_reference, frame_reference_pre, preserves, algebraic⟩

end Cert.Proof

end
